-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unmasked [hPre_finite_unmasked : Cert.Pre_finite_unmasked.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2.2.1 = (fun _ => 1#1)
    ∧ (Cert.Pre_finite_unmasked.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unmasked [hPre_finite_unmasked : Cert.Pre_finite_unmasked.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2.2.1 = (fun _ => 1#1)
    ∧ (Cert.Pre_finite_unmasked.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_unmasked [hKernelIdeal : Cert.KernelIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unmasked m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_unmasked [hReferenceIdeal : Cert.ReferenceIdeal.Facts] [hPre_finite_unmasked : Cert.Pre_finite_unmasked.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unmasked m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_unmasked [hKernelIdeal : Cert.KernelIdeal.Facts] [hReferenceIdeal : Cert.ReferenceIdeal.Facts] [hPre_finite_unmasked : Cert.Pre_finite_unmasked.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unmasked m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v158) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_unmasked : Cert.Pre_finite_unmasked.Facts),
    quiescent_Kernel (hKernel := hKernel)
    ∧ quiescent_KernelIdeal (hKernelIdeal := hKernelIdeal)
    ∧ quiescent_KernelIdeal_pre_finite_unmasked (hKernelIdeal := hKernelIdeal) (hPre_finite_unmasked := hPre_finite_unmasked)
    ∧ quiescent_ReferenceIdeal (hReferenceIdeal := hReferenceIdeal)
    ∧ quiescent_ReferenceIdeal_pre_finite_unmasked (hReferenceIdeal := hReferenceIdeal) (hPre_finite_unmasked := hPre_finite_unmasked)
    ∧ preserves_Kernel_KernelIdeal
    ∧ algebraic_KernelIdeal_ReferenceIdeal_pre_finite_unmasked (hKernelIdeal := hKernelIdeal) (hReferenceIdeal := hReferenceIdeal) (hPre_finite_unmasked := hPre_finite_unmasked)
-- ==== Pre_finite_unmasked.lean ====
abbrev S4x128x256 : Shape := ⟨3, ![4, 128, 256]⟩
abbrev S4x80x512 : Shape := ⟨3, ![4, 80, 512]⟩
abbrev S4x128 : Shape := ⟨2, ![4, 128]⟩
abbrev S512x256x3 : Shape := ⟨3, ![512, 256, 3]⟩
abbrev S512 : Shape := ⟨1, ![512]⟩
abbrev S256x512x1 : Shape := ⟨3, ![256, 512, 1]⟩
abbrev S256 : Shape := ⟨1, ![256]⟩
abbrev S160x80x3 : Shape := ⟨3, ![160, 80, 3]⟩
abbrev S160 : Shape := ⟨1, ![160]⟩
abbrev S80x160x1 : Shape := ⟨3, ![80, 160, 1]⟩
abbrev S80 : Shape := ⟨1, ![80]⟩
abbrev S256x80x1 : Shape := ⟨3, ![256, 80, 1]⟩
abbrev S256x256x3 : Shape := ⟨3, ![256, 256, 3]⟩
abbrev S256x1 : Shape := ⟨2, ![256, 1]⟩
abbrev S1 : Shape := ⟨1, ![1]⟩
abbrev S_ : Shape := ⟨0, ![]⟩

class Facts : Prop where
  bcast_S_S4x128x256 : S_.BroadcastsInDim S4x128x256 (![] : Fin 0 → Fin S4x128x256.rank)
  bcast_S_S4x80x512 : S_.BroadcastsInDim S4x80x512 (![] : Fin 0 → Fin S4x80x512.rank)
  bcast_S_S512x256x3 : S_.BroadcastsInDim S512x256x3 (![] : Fin 0 → Fin S512x256x3.rank)
  bcast_S_S512 : S_.BroadcastsInDim S512 (![] : Fin 0 → Fin S512.rank)
  bcast_S_S256x512x1 : S_.BroadcastsInDim S256x512x1 (![] : Fin 0 → Fin S256x512x1.rank)
  bcast_S_S256 : S_.BroadcastsInDim S256 (![] : Fin 0 → Fin S256.rank)
  bcast_S_S160x80x3 : S_.BroadcastsInDim S160x80x3 (![] : Fin 0 → Fin S160x80x3.rank)
  bcast_S_S160 : S_.BroadcastsInDim S160 (![] : Fin 0 → Fin S160.rank)
  bcast_S_S80x160x1 : S_.BroadcastsInDim S80x160x1 (![] : Fin 0 → Fin S80x160x1.rank)
  bcast_S_S80 : S_.BroadcastsInDim S80 (![] : Fin 0 → Fin S80.rank)
  bcast_S_S256x80x1 : S_.BroadcastsInDim S256x80x1 (![] : Fin 0 → Fin S256x80x1.rank)
  bcast_S_S256x256x3 : S_.BroadcastsInDim S256x256x3 (![] : Fin 0 → Fin S256x256x3.rank)

variable [Facts]

def fn_part2 {F : FTy → Type} [FloatOps F] (main_arg13 : FVec F S256x256x3 .f32) (main_arg14 : FVec F S256 .f32) (main_arg15 : FVec F S256 .f32) (main_arg16 : FVec F S256 .f32) (main_arg17 : FVec F S256x256x3 .f32) (main_v0 : IVec S4x128 1) (main_v3 : IVec S4x128x256 1) (main_v6 : IVec S4x80x512 1) (main_v9 : IVec S512x256x3 1) (main_v12 : IVec S512 1) (main_v15 : IVec S256x512x1 1) (main_v18 : IVec S256 1) (main_v21 : IVec S160x80x3 1) (main_v24 : IVec S160 1) (main_v27 : IVec S80x160x1 1) (main_v30 : IVec S80 1) (main_v33 : IVec S256x80x1 1) (main_v34 : FVec F S256 .f32) (main_v35 : FVec F S256 .f32) : IVec S4x128 1 × IVec S4x128x256 1 × IVec S4x80x512 1 × IVec S512x256x3 1 × IVec S512 1 × IVec S256x512x1 1 × IVec S256 1 × IVec S160x80x3 1 × IVec S160 1 × IVec S80x160x1 1 × IVec S80 1 × IVec S256x80x1 1 × IVec S256 1 × IVec S256x256x3 1 × IVec S256 1 × IVec S256 1 × IVec S256 1 × IVec S256x256x3 1 :=
  let main_v36 : IVec S256 1 := cmpf .olt main_v34 main_v35
  let main_v37 : FVec F S256x256x3 .f32 := Host.absf main_arg13
  let main_cst_11 : FVec F S_ .f32 := constant S_ .f32 0x7F800000#32
  let main_v38 : FVec F S256x256x3 .f32 := broadcastInDim S256x256x3 ![] bcast_S_S256x256x3 main_cst_11
  let main_v39 : IVec S256x256x3 1 := cmpf .olt main_v37 main_v38
  let main_v40 : FVec F S256 .f32 := Host.absf main_arg14
  let main_cst_12 : FVec F S_ .f32 := constant S_ .f32 0x7F800000#32
  let main_v41 : FVec F S256 .f32 := broadcastInDim S256 ![] bcast_S_S256 main_cst_12
  let main_v42 : IVec S256 1 := cmpf .olt main_v40 main_v41
  let main_v43 : FVec F S256 .f32 := Host.absf main_arg15
  let main_cst_13 : FVec F S_ .f32 := constant S_ .f32 0x7F800000#32
  let main_v44 : FVec F S256 .f32 := broadcastInDim S256 ![] bcast_S_S256 main_cst_13
  let main_v45 : IVec S256 1 := cmpf .olt main_v43 main_v44
  let main_v46 : FVec F S256 .f32 := Host.absf main_arg16
  let main_cst_14 : FVec F S_ .f32 := constant S_ .f32 0x7F800000#32
  let main_v47 : FVec F S256 .f32 := broadcastInDim S256 ![] bcast_S_S256 main_cst_14
  let main_v48 : IVec S256 1 := cmpf .olt main_v46 main_v47
  let main_v49 : FVec F S256x256x3 .f32 := Host.absf main_arg17
  let main_cst_15 : FVec F S_ .f32 := constant S_ .f32 0x7F800000#32
  let main_v50 : FVec F S256x256x3 .f32 := broadcastInDim S256x256x3 ![] bcast_S_S256x256x3 main_cst_15
  let main_v51 : IVec S256x256x3 1 := cmpf .olt main_v49 main_v50
  (main_v0, main_v3, main_v6, main_v9, main_v12, main_v15, main_v18, main_v21, main_v24, main_v27, main_v30, main_v33, main_v36, main_v39, main_v42, main_v45, main_v48, main_v51)

def fn_part1 {F : FTy → Type} [FloatOps F] (main_arg7 : FVec F S160x80x3 .f32) (main_arg8 : FVec F S160 .f32) (main_arg9 : FVec F S80x160x1 .f32) (main_arg10 : FVec F S80 .f32) (main_arg11 : FVec F S256x80x1 .f32) (main_arg12 : FVec F S256 .f32) (main_arg13 : FVec F S256x256x3 .f32) (main_arg14 : FVec F S256 .f32) (main_arg15 : FVec F S256 .f32) (main_arg16 : FVec F S256 .f32) (main_arg17 : FVec F S256x256x3 .f32) (main_v0 : IVec S4x128 1) (main_v3 : IVec S4x128x256 1) (main_v6 : IVec S4x80x512 1) (main_v9 : IVec S512x256x3 1) (main_v12 : IVec S512 1) (main_v15 : IVec S256x512x1 1) (main_v16 : FVec F S256 .f32) (main_v17 : FVec F S256 .f32) : IVec S4x128 1 × IVec S4x128x256 1 × IVec S4x80x512 1 × IVec S512x256x3 1 × IVec S512 1 × IVec S256x512x1 1 × IVec S256 1 × IVec S160x80x3 1 × IVec S160 1 × IVec S80x160x1 1 × IVec S80 1 × IVec S256x80x1 1 × IVec S256 1 × IVec S256x256x3 1 × IVec S256 1 × IVec S256 1 × IVec S256 1 × IVec S256x256x3 1 :=
  let main_v18 : IVec S256 1 := cmpf .olt main_v16 main_v17
  let main_v19 : FVec F S160x80x3 .f32 := Host.absf main_arg7
  let main_cst_5 : FVec F S_ .f32 := constant S_ .f32 0x7F800000#32
  let main_v20 : FVec F S160x80x3 .f32 := broadcastInDim S160x80x3 ![] bcast_S_S160x80x3 main_cst_5
  let main_v21 : IVec S160x80x3 1 := cmpf .olt main_v19 main_v20
  let main_v22 : FVec F S160 .f32 := Host.absf main_arg8
  let main_cst_6 : FVec F S_ .f32 := constant S_ .f32 0x7F800000#32
  let main_v23 : FVec F S160 .f32 := broadcastInDim S160 ![] bcast_S_S160 main_cst_6
  let main_v24 : IVec S160 1 := cmpf .olt main_v22 main_v23
  let main_v25 : FVec F S80x160x1 .f32 := Host.absf main_arg9
  let main_cst_7 : FVec F S_ .f32 := constant S_ .f32 0x7F800000#32
  let main_v26 : FVec F S80x160x1 .f32 := broadcastInDim S80x160x1 ![] bcast_S_S80x160x1 main_cst_7
  let main_v27 : IVec S80x160x1 1 := cmpf .olt main_v25 main_v26
  let main_v28 : FVec F S80 .f32 := Host.absf main_arg10
  let main_cst_8 : FVec F S_ .f32 := constant S_ .f32 0x7F800000#32
  let main_v29 : FVec F S80 .f32 := broadcastInDim S80 ![] bcast_S_S80 main_cst_8
  let main_v30 : IVec S80 1 := cmpf .olt main_v28 main_v29
  let main_v31 : FVec F S256x80x1 .f32 := Host.absf main_arg11
  let main_cst_9 : FVec F S_ .f32 := constant S_ .f32 0x7F800000#32
  let main_v32 : FVec F S256x80x1 .f32 := broadcastInDim S256x80x1 ![] bcast_S_S256x80x1 main_cst_9
  let main_v33 : IVec S256x80x1 1 := cmpf .olt main_v31 main_v32
  let main_v34 : FVec F S256 .f32 := Host.absf main_arg12
  let main_cst_10 : FVec F S_ .f32 := constant S_ .f32 0x7F800000#32
  let main_v35 : FVec F S256 .f32 := broadcastInDim S256 ![] bcast_S_S256 main_cst_10
  fn_part2 (F := F) main_arg13 main_arg14 main_arg15 main_arg16 main_arg17 main_v0 main_v3 main_v6 main_v9 main_v12 main_v15 main_v18 main_v21 main_v24 main_v27 main_v30 main_v33 main_v34 main_v35

def fn {F : FTy → Type} [FloatOps F] (main_arg0 : FVec F S4x128x256 .f32) (main_arg1 : FVec F S4x80x512 .f32) (main_arg2 : IVec S4x128 1) (main_arg3 : FVec F S512x256x3 .f32) (main_arg4 : FVec F S512 .f32) (main_arg5 : FVec F S256x512x1 .f32) (main_arg6 : FVec F S256 .f32) (main_arg7 : FVec F S160x80x3 .f32) (main_arg8 : FVec F S160 .f32) (main_arg9 : FVec F S80x160x1 .f32) (main_arg10 : FVec F S80 .f32) (main_arg11 : FVec F S256x80x1 .f32) (main_arg12 : FVec F S256 .f32) (main_arg13 : FVec F S256x256x3 .f32) (main_arg14 : FVec F S256 .f32) (main_arg15 : FVec F S256 .f32) (main_arg16 : FVec F S256 .f32) (main_arg17 : FVec F S256x256x3 .f32) (main_arg18 : FVec F S256 .f32) (main_arg19 : FVec F S256 .f32) (main_arg20 : FVec F S256 .f32) (main_arg21 : FVec F S256x1 .f32) (main_arg22 : FVec F S1 .f32) : IVec S4x128 1 × IVec S4x128x256 1 × IVec S4x80x512 1 × IVec S512x256x3 1 × IVec S512 1 × IVec S256x512x1 1 × IVec S256 1 × IVec S160x80x3 1 × IVec S160 1 × IVec S80x160x1 1 × IVec S80 1 × IVec S256x80x1 1 × IVec S256 1 × IVec S256x256x3 1 × IVec S256 1 × IVec S256 1 × IVec S256 1 × IVec S256x256x3 1 :=
  let main_v0 : IVec S4x128 1 := noti main_arg2
  let main_v1 : FVec F S4x128x256 .f32 := Host.absf main_arg0
  let main_cst : FVec F S_ .f32 := constant S_ .f32 0x7F800000#32
  let main_v2 : FVec F S4x128x256 .f32 := broadcastInDim S4x128x256 ![] bcast_S_S4x128x256 main_cst
  let main_v3 : IVec S4x128x256 1 := cmpf .olt main_v1 main_v2
  let main_v4 : FVec F S4x80x512 .f32 := Host.absf main_arg1
  let main_cst_0 : FVec F S_ .f32 := constant S_ .f32 0x7F800000#32
  let main_v5 : FVec F S4x80x512 .f32 := broadcastInDim S4x80x512 ![] bcast_S_S4x80x512 main_cst_0
  let main_v6 : IVec S4x80x512 1 := cmpf .olt main_v4 main_v5
  let main_v7 : FVec F S512x256x3 .f32 := Host.absf main_arg3
  let main_cst_1 : FVec F S_ .f32 := constant S_ .f32 0x7F800000#32
  let main_v8 : FVec F S512x256x3 .f32 := broadcastInDim S512x256x3 ![] bcast_S_S512x256x3 main_cst_1
  let main_v9 : IVec S512x256x3 1 := cmpf .olt main_v7 main_v8
  let main_v10 : FVec F S512 .f32 := Host.absf main_arg4
  let main_cst_2 : FVec F S_ .f32 := constant S_ .f32 0x7F800000#32
  let main_v11 : FVec F S512 .f32 := broadcastInDim S512 ![] bcast_S_S512 main_cst_2
  let main_v12 : IVec S512 1 := cmpf .olt main_v10 main_v11
  let main_v13 : FVec F S256x512x1 .f32 := Host.absf main_arg5
  let main_cst_3 : FVec F S_ .f32 := constant S_ .f32 0x7F800000#32
  let main_v14 : FVec F S256x512x1 .f32 := broadcastInDim S256x512x1 ![] bcast_S_S256x512x1 main_cst_3
  let main_v15 : IVec S256x512x1 1 := cmpf .olt main_v13 main_v14
  let main_v16 : FVec F S256 .f32 := Host.absf main_arg6
  let main_cst_4 : FVec F S_ .f32 := constant S_ .f32 0x7F800000#32
  let main_v17 : FVec F S256 .f32 := broadcastInDim S256 ![] bcast_S_S256 main_cst_4
  fn_part1 (F := F) main_arg7 main_arg8 main_arg9 main_arg10 main_arg11 main_arg12 main_arg13 main_arg14 main_arg15 main_arg16 main_arg17 main_v0 main_v3 main_v6 main_v9 main_v12 main_v15 main_v16 main_v17
-- ==== Kernel.lean ====
abbrev S4x128x256 : Shape := ⟨3, ![4, 128, 256]⟩
abbrev S4x80x512 : Shape := ⟨3, ![4, 80, 512]⟩
abbrev S4x128 : Shape := ⟨2, ![4, 128]⟩
abbrev S512x256x3 : Shape := ⟨3, ![512, 256, 3]⟩
abbrev S512 : Shape := ⟨1, ![512]⟩
abbrev S256x512x1 : Shape := ⟨3, ![256, 512, 1]⟩
abbrev S256 : Shape := ⟨1, ![256]⟩
abbrev S160x80x3 : Shape := ⟨3, ![160, 80, 3]⟩
abbrev S160 : Shape := ⟨1, ![160]⟩
abbrev S80x160x1 : Shape := ⟨3, ![80, 160, 1]⟩
abbrev S80 : Shape := ⟨1, ![80]⟩
abbrev S256x80x1 : Shape := ⟨3, ![256, 80, 1]⟩
abbrev S256x256x3 : Shape := ⟨3, ![256, 256, 3]⟩
abbrev S256x1 : Shape := ⟨2, ![256, 1]⟩
abbrev S1 : Shape := ⟨1, ![1]⟩
abbrev S512x256 : Shape := ⟨2, ![512, 256]⟩
abbrev S320x512 : Shape := ⟨2, ![320, 512]⟩
abbrev S1024x256x3 : Shape := ⟨3, ![1024, 256, 3]⟩
abbrev S1024x3x256 : Shape := ⟨3, ![1024, 3, 256]⟩
abbrev S1024x768 : Shape := ⟨2, ![1024, 768]⟩
abbrev S256x512 : Shape := ⟨2, ![256, 512]⟩
abbrev S160x3x80 : Shape := ⟨3, ![160, 3, 80]⟩
abbrev S160x240 : Shape := ⟨2, ![160, 240]⟩
abbrev S80x160 : Shape := ⟨2, ![80, 160]⟩
abbrev S256x80 : Shape := ⟨2, ![256, 80]⟩
abbrev S4x512x128 : Shape := ⟨3, ![4, 512, 128]⟩
abbrev S512x768 : Shape := ⟨2, ![512, 768]⟩
abbrev S256x768 : Shape := ⟨2, ![256, 768]⟩
abbrev S1x256 : Shape := ⟨2, ![1, 256]⟩
abbrev S511x256 : Shape := ⟨2, ![511, 256]⟩
abbrev S512x512 : Shape := ⟨2, ![512, 512]⟩
abbrev S1x512 : Shape := ⟨2, ![1, 512]⟩
abbrev S80x1 : Shape := ⟨2, ![80, 1]⟩
abbrev S160x80 : Shape := ⟨2, ![160, 80]⟩
abbrev S80x512 : Shape := ⟨2, ![80, 512]⟩
abbrev S80x511 : Shape := ⟨2, ![80, 511]⟩
abbrev S512x160 : Shape := ⟨2, ![512, 160]⟩
abbrev S2048x160 : Shape := ⟨2, ![2048, 160]⟩
abbrev S1x160 : Shape := ⟨2, ![1, 160]⟩
abbrev S2048x80 : Shape := ⟨2, ![2048, 80]⟩
abbrev S1x80 : Shape := ⟨2, ![1, 80]⟩
abbrev S2048x256 : Shape := ⟨2, ![2048, 256]⟩
abbrev S2048 : Shape := ⟨1, ![2048]⟩
abbrev S2048x1 : Shape := ⟨2, ![2048, 1]⟩
abbrev S128x256 : Shape := ⟨2, ![128, 256]⟩
abbrev S512x1 : Shape := ⟨2, ![512, 1]⟩
abbrev S1x128 : Shape := ⟨2, ![1, 128]⟩
abbrev S512x128 : Shape := ⟨2, ![512, 128]⟩
abbrev S1x512x128 : Shape := ⟨3, ![1, 512, 128]⟩
abbrev S1x1 : Shape := ⟨2, ![1, 1]⟩

abbrev nBuf : Space → Nat
  | .hbm => 36
  | .vmem => 23
  | .smem => 0
  | _ => 0

abbrev bufTy : (tb : Table) → Fin (tcTables nBuf tb) → BufTy
  | .hbm, ⟨0, _⟩ => ⟨S4x128x256, .f32⟩
  | .hbm, ⟨1, _⟩ => ⟨S4x80x512, .f32⟩
  | .hbm, ⟨2, _⟩ => ⟨S4x128, .i1⟩
  | .hbm, ⟨3, _⟩ => ⟨S512x256x3, .f32⟩
  | .hbm, ⟨4, _⟩ => ⟨S512, .f32⟩
  | .hbm, ⟨5, _⟩ => ⟨S256x512x1, .f32⟩
  | .hbm, ⟨6, _⟩ => ⟨S256, .f32⟩
  | .hbm, ⟨7, _⟩ => ⟨S160x80x3, .f32⟩
  | .hbm, ⟨8, _⟩ => ⟨S160, .f32⟩
  | .hbm, ⟨9, _⟩ => ⟨S80x160x1, .f32⟩
  | .hbm, ⟨10, _⟩ => ⟨S80, .f32⟩
  | .hbm, ⟨11, _⟩ => ⟨S256x80x1, .f32⟩
  | .hbm, ⟨12, _⟩ => ⟨S256, .f32⟩
  | .hbm, ⟨13, _⟩ => ⟨S256x256x3, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256x256x3, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256x1, .f32⟩
  | .hbm, ⟨22, _⟩ => ⟨S1, .f32⟩
  | .hbm, ⟨23, _⟩ => ⟨S512x256, .f32⟩
  | .hbm, ⟨24, _⟩ => ⟨S320x512, .f32⟩
  | .hbm, ⟨25, _⟩ => ⟨S1024x256x3, .f32⟩
  | .hbm, ⟨26, _⟩ => ⟨S1024x3x256, .f32⟩
  | .hbm, ⟨27, _⟩ => ⟨S1024x768, .f32⟩
  | .hbm, ⟨28, _⟩ => ⟨S256x512, .f32⟩
  | .hbm, ⟨29, _⟩ => ⟨S160x3x80, .f32⟩
  | .hbm, ⟨30, _⟩ => ⟨S160x240, .f32⟩
  | .hbm, ⟨31, _⟩ => ⟨S80x160, .f32⟩
  | .hbm, ⟨32, _⟩ => ⟨S256x80, .f32⟩
  | .hbm, ⟨33, _⟩ => ⟨S4x512x128, .f32⟩
  | .hbm, ⟨34, _⟩ => ⟨S4x512x128, .f32⟩
  | .hbm, ⟨35, _⟩ => ⟨S4x128, .f32⟩
  | .local _ .vmem, ⟨0, _⟩ => ⟨S512x256, .f32⟩
  | .local _ .vmem, ⟨1, _⟩ => ⟨S320x512, .f32⟩
  | .local _ .vmem, ⟨2, _⟩ => ⟨S1024x768, .f32⟩
  | .local _ .vmem, ⟨3, _⟩ => ⟨S512, .f32⟩
  | .local _ .vmem, ⟨4, _⟩ => ⟨S256x512, .f32⟩
  | .local _ .vmem, ⟨5, _⟩ => ⟨S256, .f32⟩
  | .local _ .vmem, ⟨6, _⟩ => ⟨S160x240, .f32⟩
  | .local _ .vmem, ⟨7, _⟩ => ⟨S160, .f32⟩
  | .local _ .vmem, ⟨8, _⟩ => ⟨S80x160, .f32⟩
  | .local _ .vmem, ⟨9, _⟩ => ⟨S80, .f32⟩
  | .local _ .vmem, ⟨10, _⟩ => ⟨S256x80, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256x1, .f32⟩
  | .local _ .vmem, ⟨19, _⟩ => ⟨S1, .f32⟩
  | .local _ .vmem, ⟨20, _⟩ => ⟨S4x512x128, .f32⟩
  | .local _ .vmem, ⟨21, _⟩ => ⟨S4x512x128, .f32⟩
  | .local _ .vmem, ⟨22, _⟩ => ⟨S4x128, .f32⟩
  | _, _ => ⟨S4x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10_0 : Ref sig .tc := ⟨.hbm, 33, rfl⟩
abbrev main_v10_1 : Ref sig .tc := ⟨.hbm, 34, rfl⟩
abbrev main_v10_2 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S80x160 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x512x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S4x512x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== ReferenceIdeal.lean ====
abbrev S4x128x256 : Shape := ⟨3, ![4, 128, 256]⟩
abbrev S4x80x512 : Shape := ⟨3, ![4, 80, 512]⟩
abbrev S4x128 : Shape := ⟨2, ![4, 128]⟩
abbrev S512x256x3 : Shape := ⟨3, ![512, 256, 3]⟩
abbrev S512 : Shape := ⟨1, ![512]⟩
abbrev S256x512x1 : Shape := ⟨3, ![256, 512, 1]⟩
abbrev S256 : Shape := ⟨1, ![256]⟩
abbrev S160x80x3 : Shape := ⟨3, ![160, 80, 3]⟩
abbrev S160 : Shape := ⟨1, ![160]⟩
abbrev S80x160x1 : Shape := ⟨3, ![80, 160, 1]⟩
abbrev S80 : Shape := ⟨1, ![80]⟩
abbrev S256x80x1 : Shape := ⟨3, ![256, 80, 1]⟩
abbrev S256x256x3 : Shape := ⟨3, ![256, 256, 3]⟩
abbrev S256x1 : Shape := ⟨2, ![256, 1]⟩
abbrev S1 : Shape := ⟨1, ![1]⟩
abbrev S_ : Shape := ⟨0, ![]⟩
abbrev S4x130x256 : Shape := ⟨3, ![4, 130, 256]⟩
abbrev S512x256x1 : Shape := ⟨3, ![512, 256, 1]⟩
abbrev S512x256 : Shape := ⟨2, ![512, 256]⟩
abbrev S4x128x512 : Shape := ⟨3, ![4, 128, 512]⟩
abbrev S1x1x512 : Shape := ⟨3, ![1, 1, 512]⟩
abbrev S256x512 : Shape := ⟨2, ![256, 512]⟩
abbrev S1x1x256 : Shape := ⟨3, ![1, 1, 256]⟩
abbrev S4x256x128 : Shape := ⟨3, ![4, 256, 128]⟩
abbrev S4x512x80 : Shape := ⟨3, ![4, 512, 80]⟩
abbrev S4x514x80 : Shape := ⟨3, ![4, 514, 80]⟩
abbrev S160x80x1 : Shape := ⟨3, ![160, 80, 1]⟩
abbrev S160x80 : Shape := ⟨2, ![160, 80]⟩
abbrev S4x512x160 : Shape := ⟨3, ![4, 512, 160]⟩
abbrev S1x1x160 : Shape := ⟨3, ![1, 1, 160]⟩
abbrev S80x160 : Shape := ⟨2, ![80, 160]⟩
abbrev S1x1x80 : Shape := ⟨3, ![1, 1, 80]⟩
abbrev S256x80 : Shape := ⟨2, ![256, 80]⟩
abbrev S4x512x256 : Shape := ⟨3, ![4, 512, 256]⟩
abbrev S4x256x512 : Shape := ⟨3, ![4, 256, 512]⟩
abbrev S4x256x512x1 : Shape := ⟨4, ![4, 256, 512, 1]⟩
abbrev S4x256x1x128 : Shape := ⟨4, ![4, 256, 1, 128]⟩
abbrev S4x256x512x128 : Shape := ⟨4, ![4, 256, 512, 128]⟩
abbrev S4x512x128 : Shape := ⟨3, ![4, 512, 128]⟩
abbrev S4x1x128 : Shape := ⟨3, ![4, 1, 128]⟩
abbrev S4x512 : Shape := ⟨2, ![4, 512]⟩
abbrev S4x512x1 : Shape := ⟨3, ![4, 512, 1]⟩
abbrev S256x256x1 : Shape := ⟨3, ![256, 256, 1]⟩
abbrev S256x256 : Shape := ⟨2, ![256, 256]⟩
abbrev S4x128x1 : Shape := ⟨3, ![4, 128, 1]⟩
abbrev S1x1x1 : Shape := ⟨3, ![1, 1, 1]⟩

abbrev nBuf : Space → Nat
  | .hbm => 264
  | .vmem => 0
  | .smem => 0
  | _ => 0

abbrev hbmTy0_0 (i : Nat) : BufTy := match i % 128 with
  | 0 => ⟨S4x128x256, .f32⟩
  | 1 => ⟨S4x80x512, .f32⟩
  | 2 => ⟨S4x128, .i1⟩
  | 3 => ⟨S512x256x3, .f32⟩
  | 4 => ⟨S512, .f32⟩
  | 5 => ⟨S256x512x1, .f32⟩
  | 6 => ⟨S256, .f32⟩
  | 7 => ⟨S160x80x3, .f32⟩
  | 8 => ⟨S160, .f32⟩
  | 9 => ⟨S80x160x1, .f32⟩
  | 10 => ⟨S80, .f32⟩
  | 11 => ⟨S256x80x1, .f32⟩
  | 12 => ⟨S256, .f32⟩
  | 13 => ⟨S256x256x3, .f32⟩
  | 14 => ⟨S256, .f32⟩
  | 15 => ⟨S256, .f32⟩
  | 16 => ⟨S256, .f32⟩
  | 17 => ⟨S256x256x3, .f32⟩
  | 18 => ⟨S256, .f32⟩
  | 19 => ⟨S256, .f32⟩
  | 20 => ⟨S256, .f32⟩
  | 21 => ⟨S256x1, .f32⟩
  | 22 => ⟨S1, .f32⟩
  | 23 => ⟨S_, .i32⟩
  | 24 => ⟨S_, .f32⟩
  | 25 => ⟨S4x130x256, .f32⟩
  | 26 => ⟨S4x128x256, .f32⟩
  | 27 => ⟨S512x256x1, .f32⟩
  | 28 => ⟨S512x256, .f32⟩
  | 29 => ⟨S4x128x512, .f32⟩
  | 30 => ⟨S4x128x256, .f32⟩
  | 31 => ⟨S512x256x1, .f32⟩
  | 32 => ⟨S512x256, .f32⟩
  | 33 => ⟨S4x128x512, .f32⟩
  | 34 => ⟨S4x128x512, .f32⟩
  | 35 => ⟨S4x128x256, .f32⟩
  | 36 => ⟨S512x256x1, .f32⟩
  | 37 => ⟨S512x256, .f32⟩
  | 38 => ⟨S4x128x512, .f32⟩
  | 39 => ⟨S4x128x512, .f32⟩
  | 40 => ⟨S1x1x512, .f32⟩
  | 41 => ⟨S4x128x512, .f32⟩
  | 42 => ⟨S4x128x512, .f32⟩
  | 43 => ⟨S_, .f32⟩
  | 44 => ⟨S4x128x512, .f32⟩
  | 45 => ⟨S4x128x512, .f32⟩
  | 46 => ⟨S256x512, .f32⟩
  | 47 => ⟨S4x128x256, .f32⟩
  | 48 => ⟨S1x1x256, .f32⟩
  | 49 => ⟨S4x128x256, .f32⟩
  | 50 => ⟨S4x128x256, .f32⟩
  | 51 => ⟨S4x256x128, .f32⟩
  | 52 => ⟨S4x512x80, .f32⟩
  | 53 => ⟨S_, .i32⟩
  | 54 => ⟨S_, .f32⟩
  | 55 => ⟨S4x514x80, .f32⟩
  | 56 => ⟨S4x512x80, .f32⟩
  | 57 => ⟨S160x80x1, .f32⟩
  | 58 => ⟨S160x80, .f32⟩
  | 59 => ⟨S4x512x160, .f32⟩
  | 60 => ⟨S4x512x80, .f32⟩
  | 61 => ⟨S160x80x1, .f32⟩
  | 62 => ⟨S160x80, .f32⟩
  | 63 => ⟨S4x512x160, .f32⟩
  | 64 => ⟨S4x512x160, .f32⟩
  | 65 => ⟨S4x512x80, .f32⟩
  | 66 => ⟨S160x80x1, .f32⟩
  | 67 => ⟨S160x80, .f32⟩
  | 68 => ⟨S4x512x160, .f32⟩
  | 69 => ⟨S4x512x160, .f32⟩
  | 70 => ⟨S1x1x160, .f32⟩
  | 71 => ⟨S4x512x160, .f32⟩
  | 72 => ⟨S4x512x160, .f32⟩
  | 73 => ⟨S_, .f32⟩
  | 74 => ⟨S4x512x160, .f32⟩
  | 75 => ⟨S4x512x160, .f32⟩
  | 76 => ⟨S80x160, .f32⟩
  | 77 => ⟨S4x512x80, .f32⟩
  | 78 => ⟨S1x1x80, .f32⟩
  | 79 => ⟨S4x512x80, .f32⟩
  | 80 => ⟨S4x512x80, .f32⟩
  | 81 => ⟨S_, .f32⟩
  | 82 => ⟨S4x512x80, .f32⟩
  | 83 => ⟨S4x512x80, .f32⟩
  | 84 => ⟨S256x80, .f32⟩
  | 85 => ⟨S4x512x256, .f32⟩
  | 86 => ⟨S1x1x256, .f32⟩
  | 87 => ⟨S4x512x256, .f32⟩
  | 88 => ⟨S4x512x256, .f32⟩
  | 89 => ⟨S4x256x512, .f32⟩
  | 90 => ⟨S4x256x512x1, .f32⟩
  | 91 => ⟨S4x256x1x128, .f32⟩
  | 92 => ⟨S4x256x512x128, .f32⟩
  | 93 => ⟨S4x256x512x128, .f32⟩
  | 94 => ⟨S4x256x512x128, .f32⟩
  | 95 => ⟨S4x256x512x128, .f32⟩
  | 96 => ⟨S_, .f32⟩
  | 97 => ⟨S4x512x128, .f32⟩
  | 98 => ⟨S_, .f32⟩
  | 99 => ⟨S4x512x128, .f32⟩
  | 100 => ⟨S4x512x128, .f32⟩
  | 101 => ⟨S4x1x128, .i1⟩
  | 102 => ⟨S_, .f32⟩
  | 103 => ⟨S_, .f32⟩
  | 104 => ⟨S4x512x128, .i1⟩
  | 105 => ⟨S4x512x128, .f32⟩
  | 106 => ⟨S4x512x128, .f32⟩
  | 107 => ⟨S_, .f32⟩
  | 108 => ⟨S4x512, .f32⟩
  | 109 => ⟨S_, .f32⟩
  | 110 => ⟨S4x512, .f32⟩
  | 111 => ⟨S4x512, .f32⟩
  | 112 => ⟨S4x512x1, .f32⟩
  | 113 => ⟨S4x512x128, .f32⟩
  | 114 => ⟨S4x512x128, .f32⟩
  | 115 => ⟨S4x512x128, .f32⟩
  | 116 => ⟨S_, .f32⟩
  | 117 => ⟨S4x512, .f32⟩
  | 118 => ⟨S4x512x1, .f32⟩
  | 119 => ⟨S4x512x128, .f32⟩
  | 120 => ⟨S4x512x128, .f32⟩
  | 121 => ⟨S_, .i32⟩
  | 122 => ⟨S_, .f32⟩
  | 123 => ⟨S4x130x256, .f32⟩
  | 124 => ⟨S4x128x256, .f32⟩
  | 125 => ⟨S256x256x1, .f32⟩
  | 126 => ⟨S256x256, .f32⟩
  | 127 => ⟨S4x128x256, .f32⟩
  | _ => ⟨S4x128x256, .f32⟩

abbrev hbmTy0_1 (i : Nat) : BufTy := match i % 128 with
  | 0 => ⟨S4x128x256, .f32⟩
  | 1 => ⟨S256x256x1, .f32⟩
  | 2 => ⟨S256x256, .f32⟩
  | 3 => ⟨S4x128x256, .f32⟩
  | 4 => ⟨S4x128x256, .f32⟩
  | 5 => ⟨S4x128x256, .f32⟩
  | 6 => ⟨S256x256x1, .f32⟩
  | 7 => ⟨S256x256, .f32⟩
  | 8 => ⟨S4x128x256, .f32⟩
  | 9 => ⟨S4x128x256, .f32⟩
  | 10 => ⟨S1x1x256, .f32⟩
  | 11 => ⟨S4x128x256, .f32⟩
  | 12 => ⟨S4x128x256, .f32⟩
  | 13 => ⟨S_, .f32⟩
  | 14 => ⟨S4x128x256, .f32⟩
  | 15 => ⟨S4x128x256, .f32⟩
  | 16 => ⟨S_, .f32⟩
  | 17 => ⟨S4x128, .f32⟩
  | 18 => ⟨S4x128x1, .f32⟩
  | 19 => ⟨S_, .f32⟩
  | 20 => ⟨S4x128x1, .f32⟩
  | 21 => ⟨S4x128x1, .f32⟩
  | 22 => ⟨S_, .i32⟩
  | 23 => ⟨S_, .f32⟩
  | 24 => ⟨S4x128, .f32⟩
  | 25 => ⟨S4x128x1, .f32⟩
  | 26 => ⟨S_, .f32⟩
  | 27 => ⟨S4x128x1, .f32⟩
  | 28 => ⟨S4x128x1, .f32⟩
  | 29 => ⟨S4x128x256, .f32⟩
  | 30 => ⟨S4x128x256, .f32⟩
  | 31 => ⟨S4x128x256, .f32⟩
  | 32 => ⟨S_, .f32⟩
  | 33 => ⟨S_, .f32⟩
  | 34 => ⟨S_, .f32⟩
  | 35 => ⟨S_, .f32⟩
  | 36 => ⟨S4x128, .f32⟩
  | 37 => ⟨S4x128x1, .f32⟩
  | 38 => ⟨S4x128x1, .f32⟩
  | 39 => ⟨S4x128x1, .f32⟩
  | 40 => ⟨S_, .f32⟩
  | 41 => ⟨S_, .i1⟩
  | 42 => ⟨S_, .f32⟩
  | 43 => ⟨S_, .f32⟩
  | 44 => ⟨S4x128x1, .f32⟩
  | 45 => ⟨S4x128x1, .f32⟩
  | 46 => ⟨S4x128x256, .f32⟩
  | 47 => ⟨S4x128x256, .f32⟩
  | 48 => ⟨S_, .f32⟩
  | 49 => ⟨S4x128x1, .f32⟩
  | 50 => ⟨S4x128x1, .f32⟩
  | 51 => ⟨S4x128x1, .f32⟩
  | 52 => ⟨S4x128x256, .f32⟩
  | 53 => ⟨S4x128x256, .f32⟩
  | 54 => ⟨S1x1x256, .f32⟩
  | 55 => ⟨S4x128x256, .f32⟩
  | 56 => ⟨S4x128x256, .f32⟩
  | 57 => ⟨S1x1x256, .f32⟩
  | 58 => ⟨S4x128x256, .f32⟩
  | 59 => ⟨S4x128x256, .f32⟩
  | 60 => ⟨S_, .i32⟩
  | 61 => ⟨S_, .f32⟩
  | 62 => ⟨S4x130x256, .f32⟩
  | 63 => ⟨S4x128x256, .f32⟩
  | 64 => ⟨S256x256x1, .f32⟩
  | 65 => ⟨S256x256, .f32⟩
  | 66 => ⟨S4x128x256, .f32⟩
  | 67 => ⟨S4x128x256, .f32⟩
  | 68 => ⟨S256x256x1, .f32⟩
  | 69 => ⟨S256x256, .f32⟩
  | 70 => ⟨S4x128x256, .f32⟩
  | 71 => ⟨S4x128x256, .f32⟩
  | 72 => ⟨S4x128x256, .f32⟩
  | 73 => ⟨S256x256x1, .f32⟩
  | 74 => ⟨S256x256, .f32⟩
  | 75 => ⟨S4x128x256, .f32⟩
  | 76 => ⟨S4x128x256, .f32⟩
  | 77 => ⟨S1x1x256, .f32⟩
  | 78 => ⟨S4x128x256, .f32⟩
  | 79 => ⟨S4x128x256, .f32⟩
  | 80 => ⟨S_, .f32⟩
  | 81 => ⟨S4x128x256, .f32⟩
  | 82 => ⟨S4x128x256, .f32⟩
  | 83 => ⟨S_, .f32⟩
  | 84 => ⟨S4x128, .f32⟩
  | 85 => ⟨S4x128x1, .f32⟩
  | 86 => ⟨S_, .f32⟩
  | 87 => ⟨S4x128x1, .f32⟩
  | 88 => ⟨S4x128x1, .f32⟩
  | 89 => ⟨S_, .i32⟩
  | 90 => ⟨S_, .f32⟩
  | 91 => ⟨S4x128, .f32⟩
  | 92 => ⟨S4x128x1, .f32⟩
  | 93 => ⟨S_, .f32⟩
  | 94 => ⟨S4x128x1, .f32⟩
  | 95 => ⟨S4x128x1, .f32⟩
  | 96 => ⟨S4x128x256, .f32⟩
  | 97 => ⟨S4x128x256, .f32⟩
  | 98 => ⟨S4x128x256, .f32⟩
  | 99 => ⟨S_, .f32⟩
  | 100 => ⟨S_, .f32⟩
  | 101 => ⟨S_, .f32⟩
  | 102 => ⟨S_, .f32⟩
  | 103 => ⟨S4x128, .f32⟩
  | 104 => ⟨S4x128x1, .f32⟩
  | 105 => ⟨S4x128x1, .f32⟩
  | 106 => ⟨S4x128x1, .f32⟩
  | 107 => ⟨S_, .f32⟩
  | 108 => ⟨S_, .i1⟩
  | 109 => ⟨S_, .f32⟩
  | 110 => ⟨S_, .f32⟩
  | 111 => ⟨S4x128x1, .f32⟩
  | 112 => ⟨S4x128x1, .f32⟩
  | 113 => ⟨S4x128x256, .f32⟩
  | 114 => ⟨S4x128x256, .f32⟩
  | 115 => ⟨S_, .f32⟩
  | 116 => ⟨S4x128x1, .f32⟩
  | 117 => ⟨S4x128x1, .f32⟩
  | 118 => ⟨S4x128x1, .f32⟩
  | 119 => ⟨S4x128x256, .f32⟩
  | 120 => ⟨S4x128x256, .f32⟩
  | 121 => ⟨S1x1x256, .f32⟩
  | 122 => ⟨S4x128x256, .f32⟩
  | 123 => ⟨S4x128x256, .f32⟩
  | 124 => ⟨S1x1x256, .f32⟩
  | 125 => ⟨S4x128x256, .f32⟩
  | 126 => ⟨S4x128x256, .f32⟩
  | 127 => ⟨S4x128x1, .f32⟩
  | _ => ⟨S4x128x256, .f32⟩

abbrev hbmTy0_2 (i : Nat) : BufTy := match i % 128 with
  | 0 => ⟨S1x1x1, .f32⟩
  | 1 => ⟨S4x128x1, .f32⟩
  | 2 => ⟨S4x128x1, .f32⟩
  | 3 => ⟨S4x128, .f32⟩
  | 4 => ⟨S_, .f32⟩
  | 5 => ⟨S_, .f32⟩
  | 6 => ⟨S4x128, .f32⟩
  | 7 => ⟨S4x128, .f32⟩
  | _ => ⟨S4x128x256, .f32⟩

abbrev hbmTy (i : Nat) : BufTy := match i / 128 with
  | 0 => hbmTy0_0 i
  | 1 => hbmTy0_1 i
  | 2 => hbmTy0_2 i
  | _ => ⟨S4x128x256, .f32⟩

abbrev bufTy : (tb : Table) → Fin (tcTables nBuf tb) → BufTy
  | .hbm, ⟨i, _⟩ => hbmTy i
  | _, _ => ⟨S4x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_call0_v0 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_call1_cst : Ref sig .tc := ⟨.hbm, 43, rfl⟩
abbrev main_call1_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_0 : Ref sig .tc := ⟨.hbm, 53, rfl⟩
abbrev main_call2_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call3_cst : Ref sig .tc := ⟨.hbm, 73, rfl⟩
abbrev main_call3_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call4_cst : Ref sig .tc := ⟨.hbm, 81, rfl⟩
abbrev main_call4_v0 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst : Ref sig .tc := ⟨.hbm, 96, rfl⟩
abbrev main_v63 : Ref sig .tc := ⟨.hbm, 97, rfl⟩
abbrev main_cst_1 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_2 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_v67 : Ref sig .tc := ⟨.hbm, 106, rfl⟩
abbrev main_cst_3 : Ref sig .tc := ⟨.hbm, 107, rfl⟩
abbrev main_v68 : Ref sig .tc := ⟨.hbm, 108, rfl⟩
abbrev main_cst_4 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_5 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_6 : Ref sig .tc := ⟨.hbm, 121, rfl⟩
abbrev main_call6_v0 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call7_cst : Ref sig .tc := ⟨.hbm, 141, rfl⟩
abbrev main_call7_v0 : Ref sig .tc := ⟨.hbm, 142, rfl⟩
abbrev main_v97 : Ref sig .tc := ⟨.hbm, 143, rfl⟩
abbrev main_cst_7 : Ref sig .tc := ⟨.hbm, 144, rfl⟩
abbrev main_v98 : Ref sig .tc := ⟨.hbm, 145, rfl⟩
abbrev main_v99 : Ref sig .tc := ⟨.hbm, 146, rfl⟩
abbrev main_cst_8 : Ref sig .tc := ⟨.hbm, 147, rfl⟩
abbrev main_v100 : Ref sig .tc := ⟨.hbm, 148, rfl⟩
abbrev main_v101 : Ref sig .tc := ⟨.hbm, 149, rfl⟩
abbrev main_c_9 : Ref sig .tc := ⟨.hbm, 150, rfl⟩
abbrev main_call8_cst : Ref sig .tc := ⟨.hbm, 151, rfl⟩
abbrev main_call8_v0 : Ref sig .tc := ⟨.hbm, 152, rfl⟩
abbrev main_call8_v1 : Ref sig .tc := ⟨.hbm, 153, rfl⟩
abbrev main_call8_cst_0 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_call8_v5 : Ref sig .tc := ⟨.hbm, 158, rfl⟩
abbrev main_call8_v6 : Ref sig .tc := ⟨.hbm, 159, rfl⟩
abbrev main_call8_v7 : Ref sig .tc := ⟨.hbm, 160, rfl⟩
abbrev main_call8_cst_1 : Ref sig .tc := ⟨.hbm, 161, rfl⟩
abbrev main_call8_v8 : Ref sig .tc := ⟨.hbm, 162, rfl⟩
abbrev main_call8_cst_2 : Ref sig .tc := ⟨.hbm, 163, rfl⟩
abbrev main_call8_v9 : Ref sig .tc := ⟨.hbm, 164, rfl⟩
abbrev main_call8_v10 : Ref sig .tc := ⟨.hbm, 165, rfl⟩
abbrev main_call8_v11 : Ref sig .tc := ⟨.hbm, 166, rfl⟩
abbrev main_call8_v12 : Ref sig .tc := ⟨.hbm, 167, rfl⟩
abbrev main_call8_cst_3 : Ref sig .tc := ⟨.hbm, 168, rfl⟩
abbrev main_call8_v13 : Ref sig .tc := ⟨.hbm, 169, rfl⟩
abbrev main_call8_cst_4 : Ref sig .tc := ⟨.hbm, 170, rfl⟩
abbrev main_call8_call0_v0 : Ref sig .tc := ⟨.hbm, 171, rfl⟩
abbrev main_call8_call0_v1 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_cst_10 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_c_11 : Ref sig .tc := ⟨.hbm, 188, rfl⟩
abbrev main_call9_v0 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_call10_cst : Ref sig .tc := ⟨.hbm, 208, rfl⟩
abbrev main_call10_v0 : Ref sig .tc := ⟨.hbm, 209, rfl⟩
abbrev main_v134 : Ref sig .tc := ⟨.hbm, 210, rfl⟩
abbrev main_cst_12 : Ref sig .tc := ⟨.hbm, 211, rfl⟩
abbrev main_v135 : Ref sig .tc := ⟨.hbm, 212, rfl⟩
abbrev main_v136 : Ref sig .tc := ⟨.hbm, 213, rfl⟩
abbrev main_cst_13 : Ref sig .tc := ⟨.hbm, 214, rfl⟩
abbrev main_v137 : Ref sig .tc := ⟨.hbm, 215, rfl⟩
abbrev main_v138 : Ref sig .tc := ⟨.hbm, 216, rfl⟩
abbrev main_c_14 : Ref sig .tc := ⟨.hbm, 217, rfl⟩
abbrev main_call11_cst : Ref sig .tc := ⟨.hbm, 218, rfl⟩
abbrev main_call11_v0 : Ref sig .tc := ⟨.hbm, 219, rfl⟩
abbrev main_call11_v1 : Ref sig .tc := ⟨.hbm, 220, rfl⟩
abbrev main_call11_cst_0 : Ref sig .tc := ⟨.hbm, 221, rfl⟩
abbrev main_call11_v2 : Ref sig .tc := ⟨.hbm, 222, rfl⟩
abbrev main_call11_v3 : Ref sig .tc := ⟨.hbm, 223, rfl⟩
abbrev main_call11_v4 : Ref sig .tc := ⟨.hbm, 224, rfl⟩
abbrev main_call11_v5 : Ref sig .tc := ⟨.hbm, 225, rfl⟩
abbrev main_call11_v6 : Ref sig .tc := ⟨.hbm, 226, rfl⟩
abbrev main_call11_v7 : Ref sig .tc := ⟨.hbm, 227, rfl⟩
abbrev main_call11_cst_1 : Ref sig .tc := ⟨.hbm, 228, rfl⟩
abbrev main_call11_v8 : Ref sig .tc := ⟨.hbm, 229, rfl⟩
abbrev main_call11_cst_2 : Ref sig .tc := ⟨.hbm, 230, rfl⟩
abbrev main_call11_v9 : Ref sig .tc := ⟨.hbm, 231, rfl⟩
abbrev main_call11_v10 : Ref sig .tc := ⟨.hbm, 232, rfl⟩
abbrev main_call11_v11 : Ref sig .tc := ⟨.hbm, 233, rfl⟩
abbrev main_call11_v12 : Ref sig .tc := ⟨.hbm, 234, rfl⟩
abbrev main_call11_cst_3 : Ref sig .tc := ⟨.hbm, 235, rfl⟩
abbrev main_call11_v13 : Ref sig .tc := ⟨.hbm, 236, rfl⟩
abbrev main_call11_cst_4 : Ref sig .tc := ⟨.hbm, 237, rfl⟩
abbrev main_call11_call0_v0 : Ref sig .tc := ⟨.hbm, 238, rfl⟩
abbrev main_call11_call0_v1 : Ref sig .tc := ⟨.hbm, 239, rfl⟩
abbrev main_v139 : Ref sig .tc := ⟨.hbm, 240, rfl⟩
abbrev main_v140 : Ref sig .tc := ⟨.hbm, 241, rfl⟩
abbrev main_v141 : Ref sig .tc := ⟨.hbm, 242, rfl⟩
abbrev main_cst_15 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩
abbrev main_v148 : Ref sig .tc := ⟨.hbm, 250, rfl⟩
abbrev main_v149 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_cst_16 : Ref sig .tc := ⟨.hbm, 260, rfl⟩
abbrev main_call12_v0 : Ref sig .tc := ⟨.hbm, 261, rfl⟩
abbrev main_call12_v1 : Ref sig .tc := ⟨.hbm, 262, rfl⟩
abbrev main_v158 : Ref sig .tc := ⟨.hbm, 263, rfl⟩

abbrev nD : Nat := 1
abbrev τ : Topo := Topo.v7x

variable {F : FTy → Type} [FloatOps F]
-- ==== Proof.Spec.lean ====
/- WHAT THE ALIGNER COMPUTES, element by element, over extended reals. Text and mel features enter as functions of the
   time step and the channel of one batch. The keys are a width-three convolution over the text, cut off at zero, and a
   dense layer. The queries are a width-three convolution over the mels and two dense layers. The logits are the scaled
   squared distances of queries and keys, the attention their softmax over the text. The durations are two rounds of
   convolution, cut-off and layer normalisation over the text, and a dense layer. -/
module

public import Idealize.ShloMosaic.Lib.Pointwise

@[expose] public section

noncomputable section

namespace Cert.Proof.Spec

open Idealize.ShloMosaic

/-- The value one time step earlier, zero before the first. -/
def before {n : Nat} (x : Fin n → EReal) (t : Fin n) : EReal :=
  if h : t.val < 1 then 0 else x ⟨t.val - 1, by omega⟩

/-- The value one time step later, zero after the last. -/
def after {n : Nat} (x : Fin n → EReal) (t : Fin n) : EReal :=
  if h : t.val + 1 < n then x ⟨t.val + 1, h⟩ else 0

/-- The convolution of width three, zero padded, at time `t` and output channel `j`. -/
def conv3 {n c o : Nat} (x : Fin n → Fin c → EReal) (w : Fin o → Fin c → Fin 3 → EReal) (b : Fin o → EReal) (t : Fin n)
    (j : Fin o) : EReal :=
  (∑ k, before (fun s => x s k) t * w j k 0) + (∑ k, x t k * w j k 1) + (∑ k, after (fun s => x s k) t * w j k 2) + b j

/-- A dense layer at output channel `j`. -/
def dense {c o : Nat} (x : Fin c → EReal) (w : Fin o → Fin c → EReal) (b : Fin o → EReal) (j : Fin o) : EReal :=
  (∑ k, x k * w j k) + b j

/-- The cut-off at zero. -/
def relu (x : EReal) : EReal := max x 0

/-- The key of text step `t`. -/
def keys (x : Fin 128 → Fin 256 → EReal) (w1 : Fin 512 → Fin 256 → Fin 3 → EReal) (b1 : Fin 512 → EReal)
    (w2 : Fin 256 → Fin 512 → EReal) (b2 : Fin 256 → EReal) (t : Fin 128) : Fin 256 → EReal :=
  dense (fun o => relu (conv3 x w1 b1 t o)) w2 b2

/-- The query of mel step `t`. -/
def queries (x : Fin 512 → Fin 80 → EReal) (w1 : Fin 160 → Fin 80 → Fin 3 → EReal) (b1 : Fin 160 → EReal)
    (w2 : Fin 80 → Fin 160 → EReal) (b2 : Fin 80 → EReal) (w3 : Fin 256 → Fin 80 → EReal) (b3 : Fin 256 → EReal)
    (t : Fin 512) : Fin 256 → EReal :=
  dense (fun p => relu (dense (fun o => relu (conv3 x w1 b1 t o)) w2 b2 p)) w3 b3

/-- The logit of a query and a key: the scaled squared distance. -/
def logit (q k : Fin 256 → EReal) : EReal :=
  Ideal.ofBits .f32 0xBA03126F#32 * ∑ d, (q d - k d) * (q d - k d)

/-- The largest logit of a row. -/
def rowMax (z : Fin 128 → EReal) : EReal := Finset.univ.fold max ⊥ z

/-- The softmax of a row. -/
def softmax (z : Fin 128 → EReal) (k : Fin 128) : EReal :=
  Ideal.div (Ideal.exp (z k - rowMax z)) (∑ j, Ideal.exp (z j - rowMax z))

/-- The mean of a row of 256 values. -/
def mean (h : Fin 256 → EReal) : EReal := Ideal.div (∑ j, h j) ((256 : ℝ) : EReal)

/-- The mean squared deviation of a row of 256 values. -/
def variance (h : Fin 256 → EReal) : EReal := Ideal.div (∑ j, (h j - mean h) * (h j - mean h)) ((256 : ℝ) : EReal)

/-- The layer normalisation of a row of 256 values. -/
def layerNorm (h g b : Fin 256 → EReal) (j : Fin 256) : EReal :=
  Ideal.div (h j - mean h) (Ideal.sqrt (variance h + Ideal.ofBits .f32 0x3727C5AC#32)) * g j + b j

/-- One round of the duration predictor: convolution, cut-off, layer normalisation. -/
def hidden (x : Fin 128 → Fin 256 → EReal) (w : Fin 256 → Fin 256 → Fin 3 → EReal) (b g c : Fin 256 → EReal)
    (t : Fin 128) : Fin 256 → EReal :=
  layerNorm (fun o => relu (conv3 x w b t o)) g c

/-- The dense layer that reads a log duration off a row. -/
def duration (h lw : Fin 256 → EReal) (lb : EReal) : EReal := (∑ j, h j * lw j) + lb

end Cert.Proof.Spec

end
-- ==== Proof.Finite.lean ====
/- FINITE VALUES. A float at the ideal instance is an extended real. This module says which of them are real numbers,
   that the operations of the two programs keep them so, and the three identities of real numbers that make the kernel's
   algebra the reference's: a difference of a value with itself is zero, a squared distance is expanded, and a quotient
   is a product with a reciprocal. -/
module

public import Idealize.ShloMosaic.Lib.Pointwise

@[expose] public section

noncomputable section

namespace Cert.Proof.Finite

open Idealize.ShloMosaic

/-- The extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih

theorem IsReal.div {x : EReal} (hx : IsReal x) {r : ℝ} (hr : r ≠ 0) : IsReal (Ideal.div x (r : EReal)) := by
  rw [Ideal.div_coe hr]; exact hx.mul (isReal_coe _)

/-- A value less its own copy is zero, as long as it is a real number. -/
theorem IsReal.sub_self {x : EReal} (hx : IsReal x) : x - x = 0 := by
  obtain ⟨a, rfl⟩ := hx
  rw [← EReal.coe_sub, _root_.sub_self, EReal.coe_zero]

/-- An absolute value below infinity is that of a real number. -/
theorem isReal_of_abs_lt_top {x : EReal} (h : max x (-x) < ⊤) : IsReal x := by
  induction x with
  | bot => simp at h
  | top => simp at h
  | coe a => exact ⟨a, rfl⟩

/-- The real numbers behind a family of finite values. -/
theorem exists_real {ι : Type} {f : ι → EReal} (h : ∀ i, IsReal (f i)) : ∃ g : ι → ℝ, f = fun i => (g i : EReal) := by
  choose g hg using h
  exact ⟨g, funext hg⟩

theorem coe_sum {ι : Type} (s : Finset ι) (g : ι → ℝ) : ∑ i ∈ s, (g i : EReal) = ((∑ i ∈ s, g i : ℝ) : EReal) := by
  classical
  induction s using Finset.induction_on with
  | empty => rfl
  | insert a s ha ih => rw [Finset.sum_insert ha, Finset.sum_insert ha, ih, EReal.coe_add]

/-- THE SQUARED DISTANCE, EXPANDED: the squared lengths of two finite vectors less twice their product is the sum of the
    squared differences. -/
theorem expand_distance {n : Nat} {q k : Fin n → EReal} (hq : ∀ d, IsReal (q d)) (hk : ∀ d, IsReal (k d)) :
    (∑ d, q d * q d + ∑ d, 1 * (k d * k d)) - ((2 : ℝ) : EReal) * ∑ d, q d * k d = ∑ d, (q d - k d) * (q d - k d) := by
  obtain ⟨a, rfl⟩ := exists_real hq
  obtain ⟨b, rfl⟩ := exists_real hk
  simp only [one_mul, ← EReal.coe_mul, ← EReal.coe_sub, coe_sum, ← EReal.coe_add]
  congr 1
  rw [Finset.mul_sum, ← Finset.sum_add_distrib, ← Finset.sum_sub_distrib]
  exact Finset.sum_congr rfl fun d _ => by ring

/-- The exponential of a real number is positive. -/
theorem IsReal.exp_pos {x : EReal} (hx : IsReal x) : 0 < Ideal.exp x := by
  obtain ⟨a, rfl⟩ := hx
  show (0 : EReal) < (Real.exp a : EReal)
  exact_mod_cast Real.exp_pos a

/-- The largest of finitely many finite values and minus infinity, over a nonempty family, is finite. -/
theorem isReal_fold_max {n : Nat} [NeZero n] {z : Fin n → EReal} (hz : ∀ j, IsReal (z j)) :
    IsReal (Finset.univ.fold max ⊥ z) := by
  have key : ∀ s : Finset (Fin n), s.fold max ⊥ z = ⊥ ∧ s = ∅ ∨ IsReal (s.fold max ⊥ z) := by
    intro s
    induction s using Finset.induction_on with
    | empty => exact .inl ⟨Finset.fold_empty, rfl⟩
    | insert a s ha ih =>
      right
      rw [Finset.fold_insert ha]
      rcases ih with ⟨h, -⟩ | h
      · rw [h, max_eq_left bot_le]; exact hz a
      · exact (hz a).max h
  rcases key Finset.univ with ⟨-, h⟩ | h
  · exact absurd h (Finset.univ_nonempty (α := Fin n)).ne_empty
  · exact h

/-- Multiplying by a reciprocal is dividing, off zero. -/
theorem mul_div_one {x s : EReal} (hs : s ≠ 0) : x * Ideal.div 1 s = Ideal.div x s := by
  rw [Ideal.div, Ideal.div, if_neg hs, if_neg hs, one_mul]

/-- Multiplying by the reciprocal square root of a positive value is dividing by its square root. At infinity both are
    a product with zero. -/
theorem mul_rsqrt {x v : EReal} (hv : 0 < v) : x * Ideal.rsqrt v = Ideal.div x (Ideal.sqrt v) := by
  induction v with
  | bot => exact absurd hv (by simp)
  | top =>
    show x * (0 : EReal) = Ideal.div x ⊤
    rw [Ideal.div, if_neg (by simp), EReal.inv_top]
  | coe a =>
    have ha : 0 < a := by exact_mod_cast hv
    have hs : Real.sqrt a ≠ 0 := (Real.sqrt_pos.mpr ha).ne'
    have h1 : Ideal.rsqrt (a : EReal) = ((Real.sqrt a)⁻¹ : ℝ) := by
      show (if a < 0 then ⊥ else if a = 0 then ⊤ else (((Real.sqrt a)⁻¹ : ℝ) : EReal)) = _
      rw [if_neg ha.not_gt, if_neg ha.ne']
    have h2 : Ideal.sqrt (a : EReal) = (Real.sqrt a : EReal) := by
      show (if a < 0 then ⊥ else (Real.sqrt a : EReal)) = _
      rw [if_neg ha.not_gt]
    rw [h1, h2, Ideal.div_coe hs, one_div]

theorem IsReal.sqrt_pos {v : EReal} (hv : IsReal v) (h : 0 < v) : ∃ r : ℝ, r ≠ 0 ∧ Ideal.sqrt v = (r : EReal) := by
  obtain ⟨a, rfl⟩ := hv
  have ha : 0 < a := by exact_mod_cast h
  refine ⟨Real.sqrt a, (Real.sqrt_pos.mpr ha).ne', ?_⟩
  show (if a < 0 then ⊥ else (Real.sqrt a : EReal)) = _
  rw [if_neg ha.not_gt]

/-- A square is not negative. -/
theorem mul_self_nonneg' (x : EReal) : 0 ≤ x * x := by
  rcases le_total 0 x with h | h
  · exact mul_nonneg h h
  · induction x with
    | bot => simp
    | top => simp at h
    | coe a => rw [← EReal.coe_mul]; exact_mod_cast mul_self_nonneg a

/-! ### The constants of the programs -/

theorem ofBits_two : Ideal.ofBits .f32 0x40000000#32 = ((2 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_inf : Ideal.ofBits .f32 0x7F800000#32 = ⊤ := by
  simp [Ideal.ofBits, Ideal.ieee]

/-- The stabilising constant of the layer normalisations is a positive real number. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  norm_num

/-- The temperature is a real number. -/
theorem ofBits_temp : IsReal (Ideal.ofBits .f32 0xBA03126F#32) :=
  ⟨_, by simp [Ideal.ofBits, Ideal.ieee, -EReal.coe_mul]; rfl⟩

end Cert.Proof.Finite

end
-- ==== Proof.KernelText.lean ====
/- THE KERNEL'S CONVOLUTION OVER THE TEXT. The kernel lays the four batches' 128 text steps below one another in 512
   rows, puts the row above, the row and the row below side by side in 768 channels with zeros where a batch begins or
   ends, and multiplies with the weights laid out the same way. Read at a row, that product is the three taps of the
   zero-padded convolution of the row's batch. -/
module

public import proofs.«01_k».proof.Proof.Gen.KernelIdeal.Skeleton
public import proofs.«01_k».proof.Proof.Spec
public import proofs.«01_k».proof.Proof.Finite

@[expose] public section

set_option maxRecDepth 16384

noncomputable section

namespace Cert.Proof.KernelText

open Idealize.ShloMosaic Cert.KernelIdeal Cert.KernelIdeal.Gen Cert.Proof.Spec

/-- The row of batch `b`'s text step `t`. -/
def row (b : Fin 4) (t : Fin 128) : Fin 512 := ⟨128 * b.val + t.val, by omega⟩

/-- The text features of batch `b`, out of the rows of all batches. -/
def text (x : FVec Ideal S512x256 .f32) (b : Fin 4) : Fin 128 → Fin 256 → EReal := fun t c => x (ix2 (row b t) c)

/-- The weights of a convolution, out of their layout with the taps side by side. -/
def taps {n : Nat} (w : FVec Ideal ⟨2, ![n, 768]⟩ .f32) : Fin n → Fin 256 → Fin 3 → EReal :=
  fun o c p => w (ix2 o ⟨256 * p.val + c.val, by omega⟩)

/-- The kernel's comparison of a row number modulo 128 with `w`. -/
def stepWord (w : BitVec 32) (r : Nat) : BitVec 1 :=
  IntOp.cmpi .eq
    (Scalar.select
      (IntOp.andi
        (IntOp.xori
          (IntOp.cmpi .slt (IntOp.remsi .vector (BitVec.ofNat 32 r) (Scalar.select (Scalar.cmpi .eq 128#32 0#32) 1#32 128#32)) 0#32)
          (Scalar.cmpi .slt (Scalar.select (Scalar.cmpi .eq 128#32 0#32) 1#32 128#32) 0#32))
        (IntOp.cmpi .ne (IntOp.remsi .vector (BitVec.ofNat 32 r) (Scalar.select (Scalar.cmpi .eq 128#32 0#32) 1#32 128#32)) 0#32))
      (IntOp.addi (IntOp.remsi .vector (BitVec.ofNat 32 r) (Scalar.select (Scalar.cmpi .eq 128#32 0#32) 1#32 128#32))
        (Scalar.select (Scalar.cmpi .eq 128#32 0#32) 1#32 128#32))
      (IntOp.remsi .vector (BitVec.ofNat 32 r) (Scalar.select (Scalar.cmpi .eq 128#32 0#32) 1#32 128#32)))
    w

/-- It is one exactly at the first row of a batch. -/
theorem stepWord_first : ∀ r : Fin 512, stepWord 0#32 r.val = if r.val % 128 = 0 then 1 else 0 := by decide +kernel

/-- It is one exactly at the last row of a batch. -/
theorem stepWord_last : ∀ r : Fin 512, stepWord 127#32 r.val = if r.val % 128 = 127 then 1 else 0 := by decide +kernel

/-- The rows above, the rows and the rows below, side by side. -/
def stacked (x : FVec Ideal S512x256 .f32) : FVec Ideal S512x768 .f32 :=
  k0_pay10 (k0_pay4 x) (k0_pay6 x) (k0_pay7 x) (Scalar.select (Scalar.cmpi .eq 128#32 0#32) 1#32 128#32) k0_pay8 k0_pay9

theorem shiftDown_apply (x : FVec Ideal S512x256 .f32) (b : Fin 4) (t : Fin 128) (c : Fin 256) :
    k0_pay6 (F := Ideal) x (ix2 (row b t) c) = before (fun s => text x b s c) t := by
  have key : k0_pay6 (F := Ideal) x (ix2 (row b t) c)
      = Scalar.select (stepWord 0#32 (row b t).val) 0
          (if h : (row b t).val < 1 then 0 else x (ix2 ⟨(row b t).val - 1, by omega⟩ c)) := by
    pointwise [k0_pay6, k0_pay4, k0_pay5]
    rfl
  rw [key, stepWord_first, before]
  have hr : (row b t).val = 128 * b.val + t.val := rfl
  by_cases h : t.val < 1
  · rw [if_pos (by omega), dif_pos h]; rfl
  · rw [if_neg (by omega), dif_neg h, dif_neg (by omega)]
    show x _ = x _
    congr 2
    exact Fin.ext (by show (row b t).val - 1 = 128 * b.val + (t.val - 1); omega)

theorem shiftUp_apply (x : FVec Ideal S512x256 .f32) (b : Fin 4) (t : Fin 128) (c : Fin 256) :
    Scalar.select (stepWord 127#32 (row b t).val) 0 (k0_pay7 (F := Ideal) x (ix2 (row b t) c)) = after (fun s => text x b s c) t := by
  have key : k0_pay7 (F := Ideal) x (ix2 (row b t) c)
      = (if h : (row b t).val < 511 then x (ix2 ⟨1 + (row b t).val, by omega⟩ c) else 0) := by
    pointwise [k0_pay7, k0_pay4, k0_pay5]
  rw [key, stepWord_last, after]
  have hr : (row b t).val = 128 * b.val + t.val := rfl
  by_cases h : t.val + 1 < 128
  · rw [if_neg (by omega), dif_pos h, dif_pos (by omega)]
    show x _ = x _
    congr 2
    exact Fin.ext (by show 1 + (row b t).val = 128 * b.val + (t.val + 1); omega)
  · rw [if_pos (by omega), dif_neg h]; rfl

theorem stacked_apply (x : FVec Ideal S512x256 .f32) (b : Fin 4) (t : Fin 128) (p : Fin 3) (c : Fin 256) :
    stacked x (ix2 (row b t) ⟨256 * p.val + c.val, by omega⟩)
      = if p.val = 0 then before (fun s => text x b s c) t else if p.val = 1 then text x b t c else after (fun s => text x b s c) t := by
  rw [← shiftDown_apply, ← shiftUp_apply, stacked]
  have hx : k0_pay4 (F := Ideal) x = x := by rw [k0_pay4, shapeCast_self]
  rw [hx]
  generalize k0_pay6 (F := Ideal) x = u
  generalize k0_pay7 (F := Ideal) x = v
  have key : ∀ k : Fin 768, k0_pay10 (F := Ideal) x u v (Scalar.select (Scalar.cmpi .eq 128#32 0#32) 1#32 128#32) k0_pay8 k0_pay9 (ix2 (row b t) k)
    = if h : k.val < 256 then u (ix2 (row b t) ⟨k.val, h⟩) else if h : k.val - 256 < 256 then x (ix2 (row b t) ⟨k.val - 256, h⟩)
        else Scalar.select (stepWord 127#32 (row b t).val) 0 (v (ix2 (row b t) ⟨k.val - 512, by omega⟩)) := by
    intro k
    pointwise [k0_pay10, k0_pay8, k0_pay9]
    rfl
  rw [key]
  fin_cases p
  · rw [if_pos (by rfl), dif_pos (by show 256 * 0 + c.val < 256; omega)]
    exact congrArg u (congrArg (ix2 _) (Fin.ext (by show 256 * 0 + c.val = c.val; omega)))
  · rw [if_neg (by decide), if_pos (by rfl), dif_neg (by show ¬ 256 * 1 + c.val < 256; omega),
      dif_pos (by show 256 * 1 + c.val - 256 < 256; omega)]
    exact congrArg x (congrArg (ix2 _) (Fin.ext (by show 256 * 1 + c.val - 256 = c.val; omega)))
  · rw [if_neg (by decide), if_neg (by decide), dif_neg (by show ¬ 256 * 2 + c.val < 256; omega),
      dif_neg (by show ¬ 256 * 2 + c.val - 256 < 256; omega)]
    exact congrArg (fun i => Scalar.select _ 0 (v (ix2 _ i))) (Fin.ext (by show 256 * 2 + c.val - 512 = c.val; omega))

/-- A product over the 768 stacked channels with the weights is the three taps of the convolution. -/
theorem stacked_dot {n : Nat} (x : FVec Ideal S512x256 .f32) (w : FVec Ideal ⟨2, ![n, 768]⟩ .f32) (b : Fin 4) (t : Fin 128) (o : Fin n) :
    ∑ k : Fin 768, stacked x (ix2 (row b t) k) * w (ix2 o k)
      = (∑ c, before (fun s => text x b s c) t * taps w o c 0) + (∑ c, text x b t c * taps w o c 1)
        + (∑ c, after (fun s => text x b s c) t * taps w o c 2) := by
  rw [Fin.sum_univ_tiles 3 256 rfl, Fin.sum_univ_three]
  have tile : ∀ p : Fin 3, ∀ c : Fin 256, ∀ h : p.val * 256 + c.val < 768,
      stacked x (ix2 (row b t) ⟨p.val * 256 + c.val, h⟩) * w (ix2 o ⟨p.val * 256 + c.val, h⟩)
        = (if p.val = 0 then before (fun s => text x b s c) t else if p.val = 1 then text x b t c else after (fun s => text x b s c) t)
          * taps w o c p := by
    intro p c h
    rw [← stacked_apply]
    have e : (⟨p.val * 256 + c.val, h⟩ : Fin 768) = ⟨256 * p.val + c.val, by omega⟩ := Fin.ext (by show p.val * 256 + c.val = 256 * p.val + c.val; omega)
    rw [e, taps]
  simp only [tile]
  rfl

/-- The kernel's keys are the keys of the text's batch. -/
theorem keys_eq (x : FVec Ideal S512x256 .f32) (w1 : FVec Ideal S512x768 .f32) (b1 : FVec Ideal S512 .f32)
    (w2 : FVec Ideal S256x512 .f32) (b2 : FVec Ideal S256 .f32) (b : Fin 4) (t : Fin 128) (d : Fin 256) :
    k0_pay11 (F := Ideal) (k0_pay1 w1) (k0_pay4 x) (k0_pay6 x) (k0_pay7 x) (Scalar.select (Scalar.cmpi .eq 128#32 0#32) 1#32 128#32) k0_pay8 k0_pay9
        b1 w2 b2 (ix2 (row b t) d)
      = keys (text x b) (taps w1) (fun j => b1 (ix1 j)) (fun j k => w2 (ix2 j k)) (fun j => b2 (ix1 j)) t d := by
  have key : k0_pay11 (F := Ideal) (k0_pay1 w1) (k0_pay4 x) (k0_pay6 x) (k0_pay7 x)
        (Scalar.select (Scalar.cmpi .eq 128#32 0#32) 1#32 128#32) k0_pay8 k0_pay9 b1 w2 b2 (ix2 (row b t) d)
      = (∑ o, max ((∑ k, stacked x (ix2 (row b t) k) * w1 (ix2 o k)) + b1 (ix1 o)) 0 * w2 (ix2 d o)) + b2 (ix1 d) := by
    unfold k0_pay11
    rw [show k0_pay10 (F := Ideal) (k0_pay4 x) (k0_pay6 x) (k0_pay7 x) (Scalar.select (Scalar.cmpi .eq 128#32 0#32) 1#32 128#32) k0_pay8 k0_pay9
      = stacked x from rfl]
    generalize stacked x = z
    pointwise [k0_pay1]
  rw [key]
  simp only [stacked_dot]
  rfl

end Cert.Proof.KernelText

end
-- ==== Proof.KernelMel.lean ====
/- THE KERNEL'S QUERIES. The kernel reads the mel of each batch with the steps along the second axis, shifts it by one
   step to either side with a zero column, multiplies each of the three with its tap's weights, and lays the four batches'
   512 steps below one another before the dense layers. Read at a row, that is the query of the row's batch and step. -/
module

public import proofs.«01_k».proof.Proof.Gen.KernelIdeal.Skeleton
public import proofs.«01_k».proof.Proof.Spec
public import proofs.«01_k».proof.Proof.Finite

@[expose] public section

set_option maxRecDepth 16384

noncomputable section

namespace Cert.Proof.KernelMel

open Idealize.ShloMosaic Cert.KernelIdeal Cert.KernelIdeal.Gen Cert.Proof.Spec

/-- The row of batch `b`'s mel step `t`. -/
def row (b : Fin 4) (t : Fin 512) : Fin 2048 := ⟨512 * b.val + t.val, by omega⟩

/-- A batch's mel features, step first. -/
def mel (x : FVec Ideal S80x512 .f32) : Fin 512 → Fin 80 → EReal := fun t c => x (ix2 c t)

/-- The weights of the convolution, out of their layout with the taps side by side. -/
def taps (w : FVec Ideal S160x240 .f32) : Fin 160 → Fin 80 → Fin 3 → EReal :=
  fun o c p => w (ix2 o ⟨80 * p.val + c.val, by omega⟩)

/-- The three taps' products of one batch, added. -/
def batchConv (w : FVec Ideal S160x240 .f32) (x : FVec Ideal S80x512 .f32) : FVec Ideal S512x160 .f32 :=
  addf (addf (k0_pay19 w x)
      (matmul dot_S80x512_S160x80_S512x160_0_1_1_0_n_n none (k0_pay17 x) (k0_pay15 w) (constant S512x160 .f32 0x00000000#32)))
    (matmul dot_S80x512_S160x80_S512x160_0_1_1_0_n_n none (k0_pay18 x) (k0_pay16 w) (constant S512x160 .f32 0x00000000#32))

theorem batchConv_apply (w : FVec Ideal S160x240 .f32) (x : FVec Ideal S80x512 .f32) (t : Fin 512) (o : Fin 160) :
    batchConv w x (ix2 t o)
      = (∑ c, before (fun s => mel x s c) t * taps w o c 0) + (∑ c, mel x t c * taps w o c 1)
        + (∑ c, after (fun s => mel x s c) t * taps w o c 2) := by
  have key : batchConv w x (ix2 t o)
      = (∑ c : Fin 80, (if h : t.val < 1 then 0 else x (ix2 c ⟨t.val - 1, by omega⟩)) * w (ix2 o ⟨c.val, by omega⟩))
        + (∑ c : Fin 80, x (ix2 c t) * w (ix2 o ⟨80 + c.val, by omega⟩))
        + (∑ c : Fin 80, (if h : t.val < 511 then x (ix2 c ⟨1 + t.val, by omega⟩) else 0) * w (ix2 o ⟨160 + c.val, by omega⟩)) := by
    pointwise [batchConv, k0_pay19, k0_pay18, k0_pay17, k0_pay16, k0_pay15, k0_pay14, k0_pay13, k0_pay12]
  rw [key]
  refine congrArg₂ (· + ·) (congrArg₂ (· + ·) (Finset.sum_congr rfl fun c _ => ?_) (Finset.sum_congr rfl fun c _ => ?_))
    (Finset.sum_congr rfl fun c _ => ?_)
  · refine congrArg₂ (· * ·) rfl (congrArg w (congrArg (ix2 o) (Fin.ext ?_)))
    show c.val = 80 * 0 + c.val; omega
  · rfl
  · refine congrArg₂ (· * ·) ?_ rfl
    unfold after
    by_cases h : t.val < 511
    · rw [dif_pos h, dif_pos (by omega)]
      exact congrArg x (congrArg (ix2 c) (Fin.ext (by show 1 + t.val = t.val + 1; omega)))
    · rw [dif_neg h, dif_neg (by omega)]

/-- The kernel's convolution of all four batches, before the cut-off. -/
def allConv (w : FVec Ideal S160x240 .f32) (x : Fin 4 → FVec Ideal S80x512 .f32) (b1 : FVec Ideal S160 .f32) : FVec Ideal S2048x160 .f32 :=
  k0_pay20 k0_pay12 (k0_pay14 w) (k0_pay15 w) (k0_pay16 w) (k0_pay17 (x 0)) (k0_pay18 (x 0)) (k0_pay19 w (x 0)) (x 1) (x 2) (x 3) b1

theorem allConv_eq (w : FVec Ideal S160x240 .f32) (x : Fin 4 → FVec Ideal S80x512 .f32) (b1 : FVec Ideal S160 .f32) :
    allConv w x b1 = addf (concatenate S2048x160 0 [⟨S512x160, batchConv w (x 0)⟩, ⟨S512x160, batchConv w (x 1)⟩,
        ⟨S512x160, batchConv w (x 2)⟩, ⟨S512x160, batchConv w (x 3)⟩] concatenates_S512x160_S512x160_S512x160_S512x160_S2048x160_d0)
      (broadcastTo S2048x160 (shapeCast S1x160 b1 shapeCasts_S160_S1x160) broadcasts_S1x160_S2048x160) := rfl

theorem allConv_apply (w : FVec Ideal S160x240 .f32) (x : Fin 4 → FVec Ideal S80x512 .f32) (b1 : FVec Ideal S160 .f32)
    (b : Fin 4) (t : Fin 512) (o : Fin 160) :
    allConv w x b1 (ix2 (row b t) o) = conv3 (mel (x b)) (taps w) (fun j => b1 (ix1 j)) t o := by
  rw [conv3, ← batchConv_apply, allConv_eq]
  have key : ∀ (u : Fin 4 → FVec Ideal S512x160 .f32) (r : Fin 2048), (addf (F := Ideal) (concatenate S2048x160 0 [⟨S512x160, u 0⟩, ⟨S512x160, u 1⟩,
        ⟨S512x160, u 2⟩, ⟨S512x160, u 3⟩] concatenates_S512x160_S512x160_S512x160_S512x160_S2048x160_d0)
      (broadcastTo S2048x160 (shapeCast S1x160 b1 shapeCasts_S160_S1x160) broadcasts_S1x160_S2048x160)) (ix2 r o)
      = (if h : r.val < 512 then u 0 (ix2 ⟨r.val, h⟩ o) else if h : r.val - 512 < 512 then u 1 (ix2 ⟨r.val - 512, h⟩ o)
          else if h : r.val - 512 - 512 < 512 then u 2 (ix2 ⟨r.val - 512 - 512, h⟩ o) else u 3 (ix2 ⟨r.val - 512 - 512 - 512, by omega⟩ o))
        + b1 (ix1 o) := by
    intro u r
    pointwise
  refine (key (fun b => batchConv w (x b)) (row b t)).trans (congrArg (· + b1 (ix1 o)) ?_)
  have ht := t.isLt
  fin_cases b
  · rw [dif_pos (by show 512 * 0 + t.val < 512; omega)]
    exact congrArg (batchConv w (x 0)) (congrArg (fun i => ix2 i o) (Fin.ext (by show 512 * 0 + t.val = t.val; omega)))
  · rw [dif_neg (by show ¬ 512 * 1 + t.val < 512; omega), dif_pos (by show 512 * 1 + t.val - 512 < 512; omega)]
    exact congrArg (batchConv w (x 1)) (congrArg (fun i => ix2 i o) (Fin.ext (by show 512 * 1 + t.val - 512 = t.val; omega)))
  · rw [dif_neg (by show ¬ 512 * 2 + t.val < 512; omega), dif_neg (by show ¬ 512 * 2 + t.val - 512 < 512; omega),
      dif_pos (by show 512 * 2 + t.val - 512 - 512 < 512; omega)]
    exact congrArg (batchConv w (x 2)) (congrArg (fun i => ix2 i o) (Fin.ext (by show 512 * 2 + t.val - 512 - 512 = t.val; omega)))
  · rw [dif_neg (by show ¬ 512 * 3 + t.val < 512; omega), dif_neg (by show ¬ 512 * 3 + t.val - 512 < 512; omega),
      dif_neg (by show ¬ 512 * 3 + t.val - 512 - 512 < 512; omega)]
    exact congrArg (batchConv w (x 3)) (congrArg (fun i => ix2 i o) (Fin.ext (by show 512 * 3 + t.val - 512 - 512 - 512 = t.val; omega)))

/-- The kernel's queries are the queries of the mel's batch. -/
theorem queries_eq (w1 : FVec Ideal S160x240 .f32) (x : Fin 4 → FVec Ideal S80x512 .f32) (b1 : FVec Ideal S160 .f32)
    (w2 : FVec Ideal S80x160 .f32) (b2 : FVec Ideal S80 .f32) (w3 : FVec Ideal S256x80 .f32) (b3 : FVec Ideal S256 .f32)
    (b : Fin 4) (t : Fin 512) (d : Fin 256) :
    k0_pay21 (F := Ideal) (allConv w1 x b1) w2 b2 w3 b3 (ix2 (row b t) d)
      = queries (mel (x b)) (taps w1) (fun j => b1 (ix1 j)) (fun j k => w2 (ix2 j k)) (fun j => b2 (ix1 j))
          (fun j k => w3 (ix2 j k)) (fun j => b3 (ix1 j)) t d := by
  have key : ∀ z : FVec Ideal S2048x160 .f32, k0_pay21 (F := Ideal) z w2 b2 w3 b3 (ix2 (row b t) d)
      = (∑ p, max ((∑ o, max (z (ix2 (row b t) o)) 0 * w2 (ix2 p o)) + b2 (ix1 p)) 0 * w3 (ix2 d p)) + b3 (ix1 d) := by
    intro z
    pointwise [k0_pay21]
  rw [key]
  simp only [allConv_apply]
  rfl

end Cert.Proof.KernelMel

end
-- ==== Proof.SpecReal.lean ====
/- THE STATED MATHEMATICS OVER FINITE INPUTS. Every stage the proof needs is finite when its inputs are. -/
module

public import proofs.«01_k».proof.Proof.Spec
public import proofs.«01_k».proof.Proof.Finite

@[expose] public section

noncomputable section

namespace Cert.Proof.Spec

open Idealize.ShloMosaic Cert.Proof.Finite

theorem isReal_before {n : Nat} {x : Fin n → EReal} (hx : ∀ t, IsReal (x t)) (t : Fin n) : IsReal (before x t) := by
  unfold before
  split
  · exact isReal_zero
  · exact hx _

theorem isReal_after {n : Nat} {x : Fin n → EReal} (hx : ∀ t, IsReal (x t)) (t : Fin n) : IsReal (after x t) := by
  unfold after
  split
  · exact hx _
  · exact isReal_zero

theorem isReal_conv3 {n c o : Nat} {x : Fin n → Fin c → EReal} {w : Fin o → Fin c → Fin 3 → EReal} {b : Fin o → EReal}
    (hx : ∀ t k, IsReal (x t k)) (hw : ∀ j k p, IsReal (w j k p)) (hb : ∀ j, IsReal (b j)) (t : Fin n) (j : Fin o) :
    IsReal (conv3 x w b t j) :=
  (((IsReal.sum _ fun k => (isReal_before (fun s => hx s k) t).mul (hw j k 0)).add
    (IsReal.sum _ fun k => (hx t k).mul (hw j k 1))).add
    (IsReal.sum _ fun k => (isReal_after (fun s => hx s k) t).mul (hw j k 2))).add (hb j)

theorem isReal_dense {c o : Nat} {x : Fin c → EReal} {w : Fin o → Fin c → EReal} {b : Fin o → EReal}
    (hx : ∀ k, IsReal (x k)) (hw : ∀ j k, IsReal (w j k)) (hb : ∀ j, IsReal (b j)) (j : Fin o) : IsReal (dense x w b j) :=
  (IsReal.sum _ fun k => (hx k).mul (hw j k)).add (hb j)

theorem isReal_relu {x : EReal} (hx : IsReal x) : IsReal (relu x) := hx.max isReal_zero

theorem isReal_keys {x : Fin 128 → Fin 256 → EReal} {w1 : Fin 512 → Fin 256 → Fin 3 → EReal} {b1 : Fin 512 → EReal}
    {w2 : Fin 256 → Fin 512 → EReal} {b2 : Fin 256 → EReal} (hx : ∀ t k, IsReal (x t k)) (hw1 : ∀ j k p, IsReal (w1 j k p))
    (hb1 : ∀ j, IsReal (b1 j)) (hw2 : ∀ j k, IsReal (w2 j k)) (hb2 : ∀ j, IsReal (b2 j)) (t : Fin 128) (d : Fin 256) :
    IsReal (keys x w1 b1 w2 b2 t d) :=
  isReal_dense (fun o => isReal_relu (isReal_conv3 hx hw1 hb1 t o)) hw2 hb2 d

theorem isReal_queries {x : Fin 512 → Fin 80 → EReal} {w1 : Fin 160 → Fin 80 → Fin 3 → EReal} {b1 : Fin 160 → EReal}
    {w2 : Fin 80 → Fin 160 → EReal} {b2 : Fin 80 → EReal} {w3 : Fin 256 → Fin 80 → EReal} {b3 : Fin 256 → EReal}
    (hx : ∀ t k, IsReal (x t k)) (hw1 : ∀ j k p, IsReal (w1 j k p)) (hb1 : ∀ j, IsReal (b1 j)) (hw2 : ∀ j k, IsReal (w2 j k))
    (hb2 : ∀ j, IsReal (b2 j)) (hw3 : ∀ j k, IsReal (w3 j k)) (hb3 : ∀ j, IsReal (b3 j)) (t : Fin 512) (d : Fin 256) :
    IsReal (queries x w1 b1 w2 b2 w3 b3 t d) :=
  isReal_dense (fun p => isReal_relu (isReal_dense (fun o => isReal_relu (isReal_conv3 hx hw1 hb1 t o)) hw2 hb2 p)) hw3 hb3 d

theorem isReal_mean {h : Fin 256 → EReal} (hh : ∀ j, IsReal (h j)) : IsReal (mean h) :=
  (IsReal.sum _ hh).div (by norm_num)

theorem isReal_variance {h : Fin 256 → EReal} (hh : ∀ j, IsReal (h j)) : IsReal (variance h) :=
  (IsReal.sum _ fun j => ((hh j).sub (isReal_mean hh)).mul ((hh j).sub (isReal_mean hh))).div (by norm_num)

/-- A variance is never negative, finite or not; with the small positive constant added it is positive. -/
theorem variance_pos (h : Fin 256 → EReal) : 0 < variance h + Ideal.ofBits .f32 0x3727C5AC#32 := by
  obtain ⟨e, he, heq⟩ := ofBits_eps
  have h0 : 0 ≤ variance h := by
    unfold variance
    rw [Ideal.div_coe (by norm_num)]
    exact mul_nonneg (Finset.sum_nonneg fun j _ => mul_self_nonneg' _) (by exact_mod_cast (by norm_num : (0 : ℝ) ≤ 1 / 256))
  rw [heq]
  exact lt_of_lt_of_le (by exact_mod_cast he) (le_add_of_nonneg_left h0)

theorem isReal_layerNorm {h g b : Fin 256 → EReal} (hh : ∀ j, IsReal (h j)) (hg : ∀ j, IsReal (g j)) (hb : ∀ j, IsReal (b j))
    (j : Fin 256) : IsReal (layerNorm h g b j) := by
  obtain ⟨e, -, heq⟩ := ofBits_eps
  have hv : IsReal (variance h + Ideal.ofBits .f32 0x3727C5AC#32) := (isReal_variance hh).add (heq ▸ isReal_coe e)
  obtain ⟨r, hr, hs⟩ := hv.sqrt_pos (variance_pos h)
  unfold layerNorm
  rw [hs]
  exact ((((hh j).sub (isReal_mean hh)).div hr).mul (hg j)).add (hb j)

theorem isReal_hidden {x : Fin 128 → Fin 256 → EReal} {w : Fin 256 → Fin 256 → Fin 3 → EReal} {b g c : Fin 256 → EReal}
    (hx : ∀ t k, IsReal (x t k)) (hw : ∀ j k p, IsReal (w j k p)) (hb : ∀ j, IsReal (b j)) (hg : ∀ j, IsReal (g j))
    (hc : ∀ j, IsReal (c j)) (t : Fin 128) (j : Fin 256) : IsReal (hidden x w b g c t j) :=
  isReal_layerNorm (fun o => isReal_relu (isReal_conv3 hx hw hb t o)) hg hc j

end Cert.Proof.Spec

end
-- ==== Proof.Results.lean ====
/- THE THREE RESULTS, as functions of the argument arrays: the attention weights, the logits they come from and the log
   durations, each at every position; and the finiteness of the arguments under which both programs compute them. -/
module

public import proofs.«01_k».proof.Proof.SpecReal

@[expose] public section

noncomputable section

namespace Cert.Proof.Spec

open Idealize.ShloMosaic Cert.Proof.Finite

/-- The argument arrays the results depend on. -/
structure Args where
  texts : Vec Ideal ⟨3, ![4, 128, 256]⟩ .f32
  mels : Vec Ideal ⟨3, ![4, 80, 512]⟩ .f32
  kpW1 : Vec Ideal ⟨3, ![512, 256, 3]⟩ .f32
  kpB1 : Vec Ideal ⟨1, ![512]⟩ .f32
  kpW2 : Vec Ideal ⟨3, ![256, 512, 1]⟩ .f32
  kpB2 : Vec Ideal ⟨1, ![256]⟩ .f32
  qpW1 : Vec Ideal ⟨3, ![160, 80, 3]⟩ .f32
  qpB1 : Vec Ideal ⟨1, ![160]⟩ .f32
  qpW2 : Vec Ideal ⟨3, ![80, 160, 1]⟩ .f32
  qpB2 : Vec Ideal ⟨1, ![80]⟩ .f32
  qpW3 : Vec Ideal ⟨3, ![256, 80, 1]⟩ .f32
  qpB3 : Vec Ideal ⟨1, ![256]⟩ .f32
  dpW1 : Vec Ideal ⟨3, ![256, 256, 3]⟩ .f32
  dpB1 : Vec Ideal ⟨1, ![256]⟩ .f32
  dpG1 : Vec Ideal ⟨1, ![256]⟩ .f32
  dpC1 : Vec Ideal ⟨1, ![256]⟩ .f32
  dpW2 : Vec Ideal ⟨3, ![256, 256, 3]⟩ .f32
  dpB2 : Vec Ideal ⟨1, ![256]⟩ .f32
  dpG2 : Vec Ideal ⟨1, ![256]⟩ .f32
  dpC2 : Vec Ideal ⟨1, ![256]⟩ .f32
  dpLW : Vec Ideal ⟨2, ![256, 1]⟩ .f32
  dpLB : Vec Ideal ⟨1, ![1]⟩ .f32

namespace Args

variable (A : Args)

/-- A batch's text, step first. -/
def text (b : Fin 4) : Fin 128 → Fin 256 → EReal := fun t k => A.texts (ix3 b t k)

/-- The keys of a batch. -/
def key (b : Fin 4) : Fin 128 → Fin 256 → EReal :=
  keys (A.text b) (fun o c p => A.kpW1 (ix3 o c p)) (fun j => A.kpB1 (ix1 j)) (fun j k => A.kpW2 (ix3 j k 0)) (fun j => A.kpB2 (ix1 j))

/-- The queries of a batch. -/
def query (b : Fin 4) : Fin 512 → Fin 256 → EReal :=
  queries (fun t c => A.mels (ix3 b c t)) (fun o c p => A.qpW1 (ix3 o c p)) (fun j => A.qpB1 (ix1 j)) (fun j k => A.qpW2 (ix3 j k 0))
    (fun j => A.qpB2 (ix1 j)) (fun j k => A.qpW3 (ix3 j k 0)) (fun j => A.qpB3 (ix1 j))

/-- The second result. -/
def logprob (b : Fin 4) (t : Fin 512) (j : Fin 128) : EReal := logit (A.query b t) (A.key b j)

/-- The first result. -/
def attn (b : Fin 4) (t : Fin 512) (j : Fin 128) : EReal := softmax (fun j => A.logprob b t j) j

/-- The duration predictor's first round. -/
def hidden1 (b : Fin 4) : Fin 128 → Fin 256 → EReal :=
  hidden (A.text b) (fun o c p => A.dpW1 (ix3 o c p)) (fun j => A.dpB1 (ix1 j)) (fun j => A.dpG1 (ix1 j)) (fun j => A.dpC1 (ix1 j))

/-- Its second round. -/
def hidden2 (b : Fin 4) : Fin 128 → Fin 256 → EReal :=
  hidden (A.hidden1 b) (fun o c p => A.dpW2 (ix3 o c p)) (fun j => A.dpB2 (ix1 j)) (fun j => A.dpG2 (ix1 j)) (fun j => A.dpC2 (ix1 j))

/-- The third result. -/
def logDuration (b : Fin 4) (t : Fin 128) : EReal := duration (A.hidden2 b t) (fun j => A.dpLW (ix2 j 0)) (A.dpLB (ix1 0))

/-- The arguments that have to be finite are. -/
structure Finite : Prop where
  texts : ∀ i, IsReal (A.texts i)
  mels : ∀ i, IsReal (A.mels i)
  kpW1 : ∀ i, IsReal (A.kpW1 i)
  kpB1 : ∀ i, IsReal (A.kpB1 i)
  kpW2 : ∀ i, IsReal (A.kpW2 i)
  kpB2 : ∀ i, IsReal (A.kpB2 i)
  qpW1 : ∀ i, IsReal (A.qpW1 i)
  qpB1 : ∀ i, IsReal (A.qpB1 i)
  qpW2 : ∀ i, IsReal (A.qpW2 i)
  qpB2 : ∀ i, IsReal (A.qpB2 i)
  qpW3 : ∀ i, IsReal (A.qpW3 i)
  qpB3 : ∀ i, IsReal (A.qpB3 i)
  dpW1 : ∀ i, IsReal (A.dpW1 i)
  dpB1 : ∀ i, IsReal (A.dpB1 i)
  dpG1 : ∀ i, IsReal (A.dpG1 i)
  dpC1 : ∀ i, IsReal (A.dpC1 i)
  dpW2 : ∀ i, IsReal (A.dpW2 i)

variable {A}

theorem Finite.text (h : A.Finite) (b : Fin 4) (t : Fin 128) (k : Fin 256) : IsReal (A.text b t k) := h.texts _

theorem Finite.key (h : A.Finite) (b : Fin 4) (t : Fin 128) (d : Fin 256) : IsReal (A.key b t d) :=
  isReal_keys (h.text b) (fun _ _ _ => h.kpW1 _) (fun _ => h.kpB1 _) (fun _ _ => h.kpW2 _) (fun _ => h.kpB2 _) t d

theorem Finite.query (h : A.Finite) (b : Fin 4) (t : Fin 512) (d : Fin 256) : IsReal (A.query b t d) :=
  isReal_queries (fun _ _ => h.mels _) (fun _ _ _ => h.qpW1 _) (fun _ => h.qpB1 _) (fun _ _ => h.qpW2 _) (fun _ => h.qpB2 _)
    (fun _ _ => h.qpW3 _) (fun _ => h.qpB3 _) t d

theorem Finite.hidden1 (h : A.Finite) (b : Fin 4) (t : Fin 128) (d : Fin 256) : IsReal (A.hidden1 b t d) :=
  isReal_hidden (h.text b) (fun _ _ _ => h.dpW1 _) (fun _ => h.dpB1 _) (fun _ => h.dpG1 _) (fun _ => h.dpC1 _) t d

end Args

end Cert.Proof.Spec

end
-- ==== Proof.KernelBlocks.lean ====
/- WHAT THE KERNEL'S BODY IS GIVEN. The grid has one point and every window's block is its whole array; the host lays the
   batches of the texts and mels below one another, puts the three taps of each convolution's weights side by side and the
   three weights of the text below one another, and drops the unit axes of the dense layers' weights. -/
module

public import proofs.«01_k».proof.Proof.Gen.KernelIdeal.Value
public import Idealize.ShloMosaic.Lib.Pipeline.ValueKit
public import proofs.«01_k».proof.Proof.KernelText
public import proofs.«01_k».proof.Proof.KernelMel
public import proofs.«01_k».proof.Proof.Results

@[expose] public section

set_option maxRecDepth 16384

noncomputable section

namespace Cert.Proof.KernelBlocks

open Idealize.ShloMosaic Idealize.ShloMosaic.TcCoe Cert.KernelIdeal Cert.KernelIdeal.Gen Cert.Proof.Spec Cert.Proof.Finite

variable (m : (ℓ : Loc nD τ sig) → Buf (Elt Ideal) ℓ) (c : Dev nD)

/-- The kernel's arguments on a device. -/
def args : Args where
  texts := m ((c : Thread nD τ).loc main_arg0)
  mels := m ((c : Thread nD τ).loc main_arg1)
  kpW1 := m ((c : Thread nD τ).loc main_arg3)
  kpB1 := m ((c : Thread nD τ).loc main_arg4)
  kpW2 := m ((c : Thread nD τ).loc main_arg5)
  kpB2 := m ((c : Thread nD τ).loc main_arg6)
  qpW1 := m ((c : Thread nD τ).loc main_arg7)
  qpB1 := m ((c : Thread nD τ).loc main_arg8)
  qpW2 := m ((c : Thread nD τ).loc main_arg9)
  qpB2 := m ((c : Thread nD τ).loc main_arg10)
  qpW3 := m ((c : Thread nD τ).loc main_arg11)
  qpB3 := m ((c : Thread nD τ).loc main_arg12)
  dpW1 := m ((c : Thread nD τ).loc main_arg13)
  dpB1 := m ((c : Thread nD τ).loc main_arg14)
  dpG1 := m ((c : Thread nD τ).loc main_arg15)
  dpC1 := m ((c : Thread nD τ).loc main_arg16)
  dpW2 := m ((c : Thread nD τ).loc main_arg17)
  dpB2 := m ((c : Thread nD τ).loc main_arg18)
  dpG2 := m ((c : Thread nD τ).loc main_arg19)
  dpC2 := m ((c : Thread nD τ).loc main_arg20)
  dpLW := m ((c : Thread nD τ).loc main_arg21)
  dpLB := m ((c : Thread nD τ).loc main_arg22)

theorem index_zero : ∀ (w : Fin cfg0.W) a, (cfg0.win w).index t0_0 a = 0 := by decide +kernel

/-- An element of a window's block has the same place in the array. -/
theorem place (w : Fin cfg0.W) (y : ((cfg0.win w).xblock (cfg0.grid.coords t0_0)).Idx) (a : Fin (cfg0.win w).shape.rank) :
    (((cfg0.win w).rect t0_0).emb y a : ℕ) = y a :=
  Pipeline.Window.rect_emb_val_of_index_zero (cfg0.win w) t0_0 a (index_zero w a) y

theorem block0 : (iblk m c 0 t0_0 : Vec Ideal S512x256 .f32) = V m c main_v0 :=
  funext fun y => congrArg (V m c main_v0) (funext fun a => Fin.ext (place 0 y a))
theorem block1 : (iblk m c 1 t0_0 : Vec Ideal S320x512 .f32) = V m c main_v1 :=
  funext fun y => congrArg (V m c main_v1) (funext fun a => Fin.ext (place 1 y a))
theorem block2 : (iblk m c 2 t0_0 : Vec Ideal S1024x768 .f32) = V m c main_v4 :=
  funext fun y => congrArg (V m c main_v4) (funext fun a => Fin.ext (place 2 y a))
theorem block3 : (iblk m c 3 t0_0 : Vec Ideal S512 .f32) = (args m c).kpB1 :=
  (funext fun y => congrArg (V m c main_arg4) (funext fun a => Fin.ext (place 3 y a))).trans (V_main_arg4 m c)
theorem block4 : (iblk m c 4 t0_0 : Vec Ideal S256x512 .f32) = V m c main_v5 :=
  funext fun y => congrArg (V m c main_v5) (funext fun a => Fin.ext (place 4 y a))
theorem block5 : (iblk m c 5 t0_0 : Vec Ideal S256 .f32) = (args m c).kpB2 :=
  (funext fun y => congrArg (V m c main_arg6) (funext fun a => Fin.ext (place 5 y a))).trans (V_main_arg6 m c)
theorem block6 : (iblk m c 6 t0_0 : Vec Ideal S160x240 .f32) = V m c main_v7 :=
  funext fun y => congrArg (V m c main_v7) (funext fun a => Fin.ext (place 6 y a))
theorem block7 : (iblk m c 7 t0_0 : Vec Ideal S160 .f32) = (args m c).qpB1 :=
  (funext fun y => congrArg (V m c main_arg8) (funext fun a => Fin.ext (place 7 y a))).trans (V_main_arg8 m c)
theorem block8 : (iblk m c 8 t0_0 : Vec Ideal S80x160 .f32) = V m c main_v8 :=
  funext fun y => congrArg (V m c main_v8) (funext fun a => Fin.ext (place 8 y a))
theorem block9 : (iblk m c 9 t0_0 : Vec Ideal S80 .f32) = (args m c).qpB2 :=
  (funext fun y => congrArg (V m c main_arg10) (funext fun a => Fin.ext (place 9 y a))).trans (V_main_arg10 m c)
theorem block10 : (iblk m c 10 t0_0 : Vec Ideal S256x80 .f32) = V m c main_v9 :=
  funext fun y => congrArg (V m c main_v9) (funext fun a => Fin.ext (place 10 y a))
theorem block11 : (iblk m c 11 t0_0 : Vec Ideal S256 .f32) = (args m c).qpB3 :=
  (funext fun y => congrArg (V m c main_arg12) (funext fun a => Fin.ext (place 11 y a))).trans (V_main_arg12 m c)
theorem block12 : (iblk m c 12 t0_0 : Vec Ideal S256 .f32) = (args m c).dpB1 :=
  (funext fun y => congrArg (V m c main_arg14) (funext fun a => Fin.ext (place 12 y a))).trans (V_main_arg14 m c)
theorem block13 : (iblk m c 13 t0_0 : Vec Ideal S256 .f32) = (args m c).dpG1 :=
  (funext fun y => congrArg (V m c main_arg15) (funext fun a => Fin.ext (place 13 y a))).trans (V_main_arg15 m c)
theorem block14 : (iblk m c 14 t0_0 : Vec Ideal S256 .f32) = (args m c).dpC1 :=
  (funext fun y => congrArg (V m c main_arg16) (funext fun a => Fin.ext (place 14 y a))).trans (V_main_arg16 m c)
theorem block15 : (iblk m c 15 t0_0 : Vec Ideal S256 .f32) = (args m c).dpB2 :=
  (funext fun y => congrArg (V m c main_arg18) (funext fun a => Fin.ext (place 15 y a))).trans (V_main_arg18 m c)
theorem block16 : (iblk m c 16 t0_0 : Vec Ideal S256 .f32) = (args m c).dpG2 :=
  (funext fun y => congrArg (V m c main_arg19) (funext fun a => Fin.ext (place 16 y a))).trans (V_main_arg19 m c)
theorem block17 : (iblk m c 17 t0_0 : Vec Ideal S256 .f32) = (args m c).dpC2 :=
  (funext fun y => congrArg (V m c main_arg20) (funext fun a => Fin.ext (place 17 y a))).trans (V_main_arg20 m c)
theorem block18 : (iblk m c 18 t0_0 : Vec Ideal S256x1 .f32) = (args m c).dpLW :=
  (funext fun y => congrArg (V m c main_arg21) (funext fun a => Fin.ext (place 18 y a))).trans (V_main_arg21 m c)
theorem block19 : (iblk m c 19 t0_0 : Vec Ideal S1 .f32) = (args m c).dpLB :=
  (funext fun y => congrArg (V m c main_arg22) (funext fun a => Fin.ext (place 19 y a))).trans (V_main_arg22 m c)

/-- The text of a batch, out of the rows laid below one another. -/
theorem text_eq (b : Fin 4) : KernelText.text (V m c main_v0) b = (args m c).text b := by
  funext t k
  show V m c main_v0 (ix2 (KernelText.row b t) k) = m (c, Proc.tc.devRef main_arg0) (ix3 b t k)
  entry_read
  pointwise
  have hr : (KernelText.row b t).val = 128 * b.val + t.val := rfl
  refine congrArg (m (c, Proc.tc.devRef main_arg0)) ?_
  congr 1 <;> apply Fin.ext <;> simp only [hr] <;> omega

/-- The mel of a batch, out of the channels laid below one another. -/
theorem mel_eq (b : Fin 4) (t : Fin 512) (k : Fin 80) :
    (V m c main_v1 : Vec Ideal S320x512 .f32) (ix2 ⟨80 * b.val + k.val, by omega⟩ t) = (args m c).mels (ix3 b k t) := by
  show V m c main_v1 _ = m (c, Proc.tc.devRef main_arg1) (ix3 b k t)
  entry_read
  pointwise

/-- The weights of the text's three convolutions, out of the rows laid below one another: the keys' first. -/
theorem taps_kp (o : Fin 512) (k : Fin 256) (p : Fin 3) :
    (V m c main_v4 : Vec Ideal S1024x768 .f32) (ix2 ⟨o.val, by omega⟩ ⟨256 * p.val + k.val, by omega⟩) = (args m c).kpW1 (ix3 o k p) := by
  show V m c main_v4 _ = m (c, Proc.tc.devRef main_arg3) (ix3 o k p)
  entry_read
  pointwise

/-- Then the duration predictor's first. -/
theorem taps_dp1 (o : Fin 256) (k : Fin 256) (p : Fin 3) :
    (V m c main_v4 : Vec Ideal S1024x768 .f32) (ix2 ⟨512 + o.val, by omega⟩ ⟨256 * p.val + k.val, by omega⟩) = (args m c).dpW1 (ix3 o k p) := by
  show V m c main_v4 _ = m (c, Proc.tc.devRef main_arg13) (ix3 o k p)
  entry_read
  pointwise

/-- Then its second. -/
theorem taps_dp2 (o : Fin 256) (k : Fin 256) (p : Fin 3) :
    (V m c main_v4 : Vec Ideal S1024x768 .f32) (ix2 ⟨768 + o.val, by omega⟩ ⟨256 * p.val + k.val, by omega⟩) = (args m c).dpW2 (ix3 o k p) := by
  show V m c main_v4 _ = m (c, Proc.tc.devRef main_arg17) (ix3 o k p)
  entry_read
  pointwise
  rw [dif_neg (by omega), dif_neg (by omega)]
  exact congrArg (fun i => m (c, Proc.tc.devRef main_arg17) (ix3 i k p)) (Fin.ext (by show 768 + o.val - 512 - 256 = o.val; omega))

/-- The weights of the mel's convolution. -/
theorem taps_qp (o : Fin 160) (k : Fin 80) (p : Fin 3) :
    (V m c main_v7 : Vec Ideal S160x240 .f32) (ix2 o ⟨80 * p.val + k.val, by omega⟩) = (args m c).qpW1 (ix3 o k p) := by
  show V m c main_v7 _ = m (c, Proc.tc.devRef main_arg7) (ix3 o k p)
  entry_read
  pointwise

/-- The dense layers' weights. -/
theorem dense_kp2 (j : Fin 256) (k : Fin 512) : (V m c main_v5 : Vec Ideal S256x512 .f32) (ix2 j k) = (args m c).kpW2 (ix3 j k 0) := by
  show V m c main_v5 _ = m (c, Proc.tc.devRef main_arg5) (ix3 j k 0)
  entry_read
  pointwise

theorem dense_qp2 (j : Fin 80) (k : Fin 160) : (V m c main_v8 : Vec Ideal S80x160 .f32) (ix2 j k) = (args m c).qpW2 (ix3 j k 0) := by
  show V m c main_v8 _ = m (c, Proc.tc.devRef main_arg9) (ix3 j k 0)
  entry_read
  pointwise

theorem dense_qp3 (j : Fin 256) (k : Fin 80) : (V m c main_v9 : Vec Ideal S256x80 .f32) (ix2 j k) = (args m c).qpW3 (ix3 j k 0) := by
  show V m c main_v9 _ = m (c, Proc.tc.devRef main_arg11) (ix3 j k 0)
  entry_read
  pointwise

end Cert.Proof.KernelBlocks

end
-- ==== Proof.KernelAttn.lean ====
/- THE KERNEL'S LOGITS AND WEIGHTS, ONE BATCH AT A TIME. From a batch's queries and keys and their squared lengths the
   kernel forms the logits as the expanded square `|q|² + |k|² − 2·(q·k)`, scaled, and their softmax with one reciprocal
   per row. For finite queries and keys these are the reference's logit and softmax. -/
module

public import proofs.«01_k».proof.Proof.KernelText
public import proofs.«01_k».proof.Proof.KernelMel

@[expose] public section

set_option maxRecDepth 16384

noncomputable section

namespace Cert.Proof.KernelAttn

open Idealize.ShloMosaic Cert.KernelIdeal Cert.KernelIdeal.Gen Cert.Proof.Spec Cert.Proof.Finite

/-- `q`, `k` hold the batch's queries and keys `Q`, `K`, and `qn`, `kn` their squared lengths. -/
structure IsTile (q : FVec Ideal S512x256 .f32) (k : FVec Ideal S128x256 .f32) (qn : FVec Ideal S512x1 .f32) (kn : FVec Ideal S1x128 .f32)
    (Q : Fin 512 → Fin 256 → EReal) (K : Fin 128 → Fin 256 → EReal) : Prop where
  q_eq : ∀ i d, q (ix2 i d) = Q i d
  k_eq : ∀ j d, k (ix2 j d) = K j d
  qn_eq : ∀ i, qn (ix2 i 0) = ∑ d, Q i d * Q i d
  kn_eq : ∀ j, kn (ix2 0 j) = ∑ d, 1 * (K j d * K j d)

variable {q : FVec Ideal S512x256 .f32} {k : FVec Ideal S128x256 .f32} {qn : FVec Ideal S512x1 .f32} {kn : FVec Ideal S1x128 .f32}
  {Q : Fin 512 → Fin 256 → EReal} {K : Fin 128 → Fin 256 → EReal}

theorem logits_apply (h : IsTile q k qn kn Q K) (hQ : ∀ i d, IsReal (Q i d)) (hK : ∀ j d, IsReal (K j d)) (i : Fin 512) (j : Fin 128) :
    k0_pay39 (F := Ideal) q k qn kn (constant S512x128 .f32 0x00000000#32) (ix2 i j) = logit (Q i) (K j) := by
  have key : k0_pay39 (F := Ideal) q k qn kn (constant S512x128 .f32 0x00000000#32) (ix2 i j)
      = Ideal.ofBits .f32 0xBA03126F#32 * (qn (ix2 i 0) + kn (ix2 0 j) - Ideal.ofBits .f32 0x40000000#32 * ∑ d, q (ix2 i d) * k (ix2 j d)) := by
    pointwise [k0_pay39]
  rw [key, h.qn_eq, h.kn_eq, ofBits_two]
  simp only [h.q_eq, h.k_eq]
  rw [expand_distance (hQ i) (hK j), logit]

/-- The logits stored for the batch. -/
theorem logprob_apply (h : IsTile q k qn kn Q K) (hQ : ∀ i d, IsReal (Q i d)) (hK : ∀ j d, IsReal (K j d)) (i : Fin 512) (j : Fin 128) :
    k0_pay40 (F := Ideal) q k qn kn (constant S512x128 .f32 0x00000000#32) (ix3 0 i j) = logit (Q i) (K j) := by
  have key : ∀ z : FVec Ideal S512x128 .f32, shapeCast S1x512x128 z shapeCasts_S512x128_S1x512x128 (ix3 0 i j) = z (ix2 i j) := by
    intro z
    pointwise
  exact (key _).trans (logits_apply h hQ hK i j)

theorem isReal_logit {a b : Fin 256 → EReal} (ha : ∀ d, IsReal (a d)) (hb : ∀ d, IsReal (b d)) : IsReal (logit a b) :=
  ofBits_temp.mul (IsReal.sum _ fun d => ((ha d).sub (hb d)).mul ((ha d).sub (hb d)))

/-- A softmax's denominator over finite logits is not zero. -/
theorem sum_exp_ne_zero {z : Fin 128 → EReal} (hz : ∀ j, IsReal (z j)) : ∑ j, Ideal.exp (z j - rowMax z) ≠ 0 := by
  have hm : IsReal (rowMax z) := isReal_fold_max hz
  have h0 : ∀ j, 0 < Ideal.exp (z j - rowMax z) := fun j => ((hz j).sub hm).exp_pos
  exact ne_of_gt (lt_of_lt_of_le (h0 0) (Finset.single_le_sum (f := fun j => Ideal.exp (z j - rowMax z)) (fun j _ => (h0 j).le) (Finset.mem_univ 0)))

/-- The weights stored for the batch. -/
theorem attn_apply (h : IsTile q k qn kn Q K) (hQ : ∀ i d, IsReal (Q i d)) (hK : ∀ j d, IsReal (K j d)) (i : Fin 512) (j : Fin 128) :
    k0_pay41 (F := Ideal) q k qn kn (constant S512x128 .f32 0x00000000#32) (ix3 0 i j) = softmax (fun j => logit (Q i) (K j)) j := by
  have key : k0_pay41 (F := Ideal) q k qn kn (constant S512x128 .f32 0x00000000#32) (ix3 0 i j)
      = (fun z : Fin 128 → EReal => Ideal.exp (z j - Finset.univ.fold max (Ideal.ofBits .f32 0xFF800000#32) z)
          * Ideal.div 1 (∑ x, Ideal.exp (z x - Finset.univ.fold max (Ideal.ofBits .f32 0xFF800000#32) z)))
        (fun x => k0_pay39 (F := Ideal) q k qn kn (constant S512x128 .f32 0x00000000#32) (ix2 i x)) := by
    unfold k0_pay41
    generalize k0_pay39 (F := Ideal) q k qn kn (constant S512x128 .f32 0x00000000#32) = z
    pointwise
  rw [key]
  simp only [logits_apply h hQ hK, ofBits_neg_inf]
  exact mul_div_one (sum_exp_ne_zero fun j => isReal_logit (hQ i) (hK j))

/-- The tile of batch `b`, out of the arrays of all batches: `b`'s 512 queries and 128 keys. -/
theorem isTile_of (b : Fin 4) (oq ok : Nat) (hoq : oq = 512 * b.val) (hok : ok = 128 * b.val)
    (sq : S2048x256.Slices ![oq, 0] S512x256) (sk : S512x256.Slices ![ok, 0] S128x256) (sn : S2048x1.Slices ![oq, 0] S512x1)
    (qs : FVec Ideal S2048x256 .f32) (ks : FVec Ideal S512x256 .f32) (qn : FVec Ideal S2048x1 .f32)
    (hqn : ∀ r, qn (ix2 r 0) = ∑ d, qs (ix2 r d) * qs (ix2 r d)) :
    IsTile (extractStridedSlice S512x256 ![oq, 0] qs sq) (extractStridedSlice S128x256 ![ok, 0] ks sk)
        (extractStridedSlice S512x1 ![oq, 0] qn sn)
        (matmul dot_S1x256_S128x256_S1x128_1_1_0_0_n_n (some .fp32) (k0_pay22 (F := Ideal))
          (extractStridedSlice S128x256 ![ok, 0] (k0_pay24 ks) sk) (constant S1x128 .f32 0x00000000#32))
        (fun i d => qs (ix2 (KernelMel.row b i) d)) (fun j d => ks (ix2 (KernelText.row b j) d)) := by
  subst hoq hok
  refine ⟨fun i d => ?_, fun j d => ?_, fun i => ?_, fun j => ?_⟩
  · pointwise
    rfl
  · pointwise
    rfl
  · pointwise [hqn]
    rfl
  · pointwise [k0_pay22, k0_pay24]
    rfl

section Tiles

/- The four stores of the logits and of the weights, over the keys `ks` and the queries `k0_pay21 z …`. -/
variable (ks : FVec Ideal S512x256 .f32) (z : FVec Ideal S2048x160 .f32) (w2 : FVec Ideal S80x160 .f32) (b2 : FVec Ideal S80 .f32)
  (w3 : FVec Ideal S256x80 .f32) (b3 : FVec Ideal S256 .f32)

theorem squares_apply (r : Fin 2048) :
    k0_pay23 (F := Ideal) z w2 b2 w3 b3 (ix2 r 0)
      = ∑ d, k0_pay21 (F := Ideal) z w2 b2 w3 b3 (ix2 r d) * k0_pay21 (F := Ideal) z w2 b2 w3 b3 (ix2 r d) := by
  unfold k0_pay23
  generalize k0_pay21 (F := Ideal) z w2 b2 w3 b3 = qs
  pointwise

/-- The logits of a batch, as stored. -/
def logprobTile : Fin 4 → FVec Ideal S1x512x128 .f32
  | 0 => k0_pay26 ks z w2 b2 w3 b3
  | 1 => k0_pay29 ks (k0_pay21 z w2 b2 w3 b3) k0_pay22 (k0_pay23 z w2 b2 w3 b3) (k0_pay24 ks)
  | 2 => k0_pay33 ks (k0_pay21 z w2 b2 w3 b3) k0_pay22 (k0_pay23 z w2 b2 w3 b3) (k0_pay24 ks)
  | 3 => k0_pay40 (k0_pay35 (k0_pay21 z w2 b2 w3 b3)) (k0_pay36 ks) (k0_pay37 (k0_pay23 z w2 b2 w3 b3)) (k0_pay38 k0_pay22 (k0_pay24 ks))
      (constant S512x128 .f32 0x00000000#32)

/-- The weights of a batch, as stored. -/
def attnTile : Fin 4 → FVec Ideal S1x512x128 .f32
  | 0 => k0_pay27 (k0_pay25 ks z w2 b2 w3 b3)
  | 1 => k0_pay31 (k0_pay30 ks (k0_pay21 z w2 b2 w3 b3) k0_pay22 (k0_pay23 z w2 b2 w3 b3) (k0_pay24 ks))
  | 2 => k0_pay34 ks (k0_pay21 z w2 b2 w3 b3) k0_pay22 (k0_pay23 z w2 b2 w3 b3) (k0_pay24 ks)
  | 3 => k0_pay41 (k0_pay35 (k0_pay21 z w2 b2 w3 b3)) (k0_pay36 ks) (k0_pay37 (k0_pay23 z w2 b2 w3 b3)) (k0_pay38 k0_pay22 (k0_pay24 ks))
      (constant S512x128 .f32 0x00000000#32)

/-- A batch's queries, out of the rows of all. -/
def queryRows (b : Fin 4) : Fin 512 → Fin 256 → EReal := fun i d => k0_pay21 (F := Ideal) z w2 b2 w3 b3 (ix2 (KernelMel.row b i) d)

/-- A batch's keys, out of the rows of all. -/
def keyRows (b : Fin 4) : Fin 128 → Fin 256 → EReal := fun j d => ks (ix2 (KernelText.row b j) d)

theorem tile_shape (b : Fin 4) : ∃ q k qn kn, IsTile q k qn kn (queryRows z w2 b2 w3 b3 b) (keyRows ks b)
    ∧ logprobTile ks z w2 b2 w3 b3 b = k0_pay40 q k qn kn (constant S512x128 .f32 0x00000000#32)
    ∧ attnTile ks z w2 b2 w3 b3 b = k0_pay41 q k qn kn (constant S512x128 .f32 0x00000000#32) := by
  have hqn := squares_apply z w2 b2 w3 b3
  fin_cases b
  · exact ⟨_, _, _, _, isTile_of 0 0 0 rfl rfl slices_S2048x256_o0_0_S512x256 slices_S512x256_o0_0_S128x256 slices_S2048x1_o0_0_S512x1
      (k0_pay21 z w2 b2 w3 b3) ks (k0_pay23 z w2 b2 w3 b3) hqn, rfl, rfl⟩
  · exact ⟨_, _, _, _, isTile_of 1 512 128 rfl rfl slices_S2048x256_o512_0_S512x256 slices_S512x256_o128_0_S128x256 slices_S2048x1_o512_0_S512x1
      (k0_pay21 z w2 b2 w3 b3) ks (k0_pay23 z w2 b2 w3 b3) hqn, rfl, rfl⟩
  · exact ⟨_, _, _, _, isTile_of 2 1024 256 rfl rfl slices_S2048x256_o1024_0_S512x256 slices_S512x256_o256_0_S128x256 slices_S2048x1_o1024_0_S512x1
      (k0_pay21 z w2 b2 w3 b3) ks (k0_pay23 z w2 b2 w3 b3) hqn, rfl, rfl⟩
  · exact ⟨_, _, _, _, isTile_of 3 1536 384 rfl rfl slices_S2048x256_o1536_0_S512x256 slices_S512x256_o384_0_S128x256 slices_S2048x1_o1536_0_S512x1
      (k0_pay21 z w2 b2 w3 b3) ks (k0_pay23 z w2 b2 w3 b3) hqn, rfl, rfl⟩

theorem logprobTile_apply (b : Fin 4) (hQ : ∀ i d, IsReal (queryRows z w2 b2 w3 b3 b i d)) (hK : ∀ j d, IsReal (keyRows ks b j d))
    (i : Fin 512) (j : Fin 128) :
    logprobTile ks z w2 b2 w3 b3 b (ix3 0 i j) = logit (queryRows z w2 b2 w3 b3 b i) (keyRows ks b j) := by
  obtain ⟨q, k, qn, kn, h, e, -⟩ := tile_shape ks z w2 b2 w3 b3 b
  rw [e]; exact logprob_apply h hQ hK i j

theorem attnTile_apply (b : Fin 4) (hQ : ∀ i d, IsReal (queryRows z w2 b2 w3 b3 b i d)) (hK : ∀ j d, IsReal (keyRows ks b j d))
    (i : Fin 512) (j : Fin 128) :
    attnTile ks z w2 b2 w3 b3 b (ix3 0 i j) = softmax (fun j => logit (queryRows z w2 b2 w3 b3 b i) (keyRows ks b j)) j := by
  obtain ⟨q, k, qn, kn, h, -, e⟩ := tile_shape ks z w2 b2 w3 b3 b
  rw [e]; exact attn_apply h hQ hK i j

end Tiles

end Cert.Proof.KernelAttn

end
-- ==== Proof.KernelDuration.lean ====
/- THE KERNEL'S DURATION PREDICTOR. Twice a convolution over the text, a cut-off and a layer normalisation; then a product
   with one weight per channel. The convolutions split each factor into a rounded part and the rest and add three of the
   four products: over finite inputs the rest is zero. The normalisation multiplies by a reciprocal square root where the
   reference divides by a square root. -/
module

public import proofs.«01_k».proof.Proof.KernelText
public import proofs.«01_k».proof.Proof.SpecReal

@[expose] public section

set_option maxRecDepth 16384

noncomputable section

namespace Cert.Proof.KernelDuration

open Idealize.ShloMosaic Cert.KernelIdeal Cert.KernelIdeal.Gen Cert.Proof.Spec Cert.Proof.Finite Cert.Proof.KernelText

theorem isReal_stacked {x : FVec Ideal S512x256 .f32} (hx : ∀ b t c, IsReal (text x b t c)) (b : Fin 4) (t : Fin 128) (k : Fin 768) :
    IsReal (stacked x (ix2 (row b t) k)) := by
  obtain ⟨p, c, hk⟩ : ∃ (p : Fin 3) (c : Fin 256), 256 * p.val + c.val = k.val := ⟨⟨k.val / 256, by omega⟩, ⟨k.val % 256, by omega⟩, Nat.div_add_mod _ _⟩
  have e : k = ⟨256 * p.val + c.val, by omega⟩ := Fin.ext hk.symm
  rw [e, stacked_apply]
  split
  · exact isReal_before (fun s => hx b s c) t
  split
  · exact hx b t c
  · exact isReal_after (fun s => hx b s c) t

/-- The split product of the stacked rows with finite weights is the convolution. -/
theorem conv_apply (w : FVec Ideal S256x768 .f32) (x : FVec Ideal S512x256 .f32) (bias : FVec Ideal S256 .f32)
    (hx : ∀ b t c, IsReal (text x b t c)) (hw : ∀ i, IsReal (w i)) (b : Fin 4) (t : Fin 128) (o : Fin 256) :
    k0_pay42 (F := Ideal) w (stacked x) bias (ix2 (row b t) o) = conv3 (text x b) (taps w) (fun j => bias (ix1 j)) t o := by
  have key : ∀ z : FVec Ideal S512x768 .f32, k0_pay42 (F := Ideal) w z bias (ix2 (row b t) o)
      = (∑ k, z (ix2 (row b t) k) * w (ix2 o k)) + ((∑ k, z (ix2 (row b t) k) * (w (ix2 o k) - w (ix2 o k)))
          + ∑ k, (z (ix2 (row b t) k) - z (ix2 (row b t) k)) * w (ix2 o k)) + bias (ix1 o) := by
    intro z
    pointwise [k0_pay42]
  rw [key, conv3, stacked_dot]
  simp only [(hw _).sub_self, (isReal_stacked hx b t _).sub_self, mul_zero, zero_mul, Finset.sum_const_zero, add_zero]

/-- The cut-off and normalisation of a row. -/
theorem norm_apply (h : FVec Ideal S512x256 .f32) (g c : FVec Ideal S256 .f32) (r : Fin 512) (o : Fin 256) :
    k0_pay43 (F := Ideal) h g c (ix2 r o) = layerNorm (fun j => relu (h (ix2 r j))) (fun j => g (ix1 j)) (fun j => c (ix1 j)) o := by
  have key : k0_pay43 (F := Ideal) h g c (ix2 r o)
      = (fun y : Fin 256 → EReal => (fun m : EReal => (y o - m)
            * Ideal.rsqrt (Ideal.div (∑ j, (y j - m) * (y j - m)) (Ideal.ofBits .f32 0x43800000#32) + Ideal.ofBits .f32 0x3727C5AC#32)
            * g (ix1 o) + c (ix1 o)) (Ideal.div (∑ j, y j) (Ideal.ofBits .f32 0x43800000#32)))
          (fun j => max (h (ix2 r j)) 0) := by
    pointwise [k0_pay43]
  rw [key, ofBits_256]
  show _ * Ideal.rsqrt (variance _ + _) * _ + _ = _
  rw [mul_rsqrt (variance_pos _)]
  rfl

/-- One round on finite inputs. -/
theorem round_apply (w : FVec Ideal S256x768 .f32) (x : FVec Ideal S512x256 .f32) (bias g c : FVec Ideal S256 .f32)
    (hx : ∀ b t c, IsReal (text x b t c)) (hw : ∀ i, IsReal (w i)) (b : Fin 4) (t : Fin 128) (o : Fin 256) :
    k0_pay43 (F := Ideal) (k0_pay42 w (stacked x) bias) g c (ix2 (row b t) o)
      = hidden (text x b) (taps w) (fun j => bias (ix1 j)) (fun j => g (ix1 j)) (fun j => c (ix1 j)) t o := by
  rw [norm_apply]
  simp only [conv_apply w x bias hx hw]
  rfl

/-- The second convolution is formed as the first one is. -/
theorem second_conv (w : FVec Ideal S256x768 .f32) (h : FVec Ideal S512x256 .f32) (g c bias : FVec Ideal S256 .f32) :
    k0_pay49 (F := Ideal) w (k0_pay43 h g c) (iota .tc S512x256 32 [0] iota_S512x256_d0_w32) k0_pay44 (k0_pay45 h g c)
        k0_pay46 k0_pay47 k0_pay48 bias
      = k0_pay42 w (stacked (k0_pay43 h g c)) bias := by
  unfold k0_pay45
  generalize k0_pay43 (F := Ideal) h g c = y
  have hy : k0_pay4 (F := Ideal) y = y := by rw [k0_pay4, shapeCast_self]
  unfold stacked k0_pay6 k0_pay7
  rw [hy]
  rfl

/-- The log durations of all 512 rows, before they are stored batch by batch. -/
theorem duration_apply (h : FVec Ideal S512x256 .f32) (g c : FVec Ideal S256 .f32) (lw : FVec Ideal S256x1 .f32) (lb : FVec Ideal S1 .f32)
    (r : Fin 512) :
    k0_pay50 (F := Ideal) h (Scalar.ofBits .f32 0x00000000#32) g c lw lb (ix2 0 r)
      = duration (fun j => k0_pay43 (F := Ideal) h g c (ix2 r j)) (fun j => lw (ix2 j 0)) (lb (ix1 0)) := by
  have e : k0_pay50 (F := Ideal) h (Scalar.ofBits .f32 0x00000000#32) g c lw lb
      = addf (matmul dot_S256x1_S512x256_S1x512_0_1_1_0_n_n (some .fp32) lw (k0_pay43 h g c) (constant S1x512 .f32 0x00000000#32))
        (broadcastTo S1x512 (shapeCast S1x1 lb shapeCasts_S1_S1x1) broadcasts_S1x1_S1x512) := rfl
  rw [e, duration]
  generalize k0_pay43 (F := Ideal) h g c = y
  have key : addf (F := Ideal) (matmul dot_S256x1_S512x256_S1x512_0_1_1_0_n_n (some .fp32) lw y (constant S1x512 .f32 0x00000000#32))
        (broadcastTo S1x512 (shapeCast S1x1 lb shapeCasts_S1_S1x1) broadcasts_S1x1_S1x512) (ix2 0 r)
      = (∑ j, lw (ix2 j 0) * y (ix2 r j)) + lb (ix1 0) := by
    pointwise
  rw [key]
  simp only [mul_comm (lw _)]

/-- The log durations of a batch, as stored. -/
def durationTile (h : FVec Ideal S512x256 .f32) (g c : FVec Ideal S256 .f32) (lw : FVec Ideal S256x1 .f32) (lb : FVec Ideal S1 .f32) :
    Fin 4 → FVec Ideal S1x128 .f32
  | 0 => k0_pay51 h (Scalar.ofBits .f32 0x00000000#32) g c lw lb
  | 1 => k0_pay52 h (Scalar.ofBits .f32 0x00000000#32) g c lw lb
  | 2 => k0_pay53 h (Scalar.ofBits .f32 0x00000000#32) g c lw lb
  | 3 => k0_pay54 h (Scalar.ofBits .f32 0x00000000#32) g c lw lb

theorem durationTile_apply (h : FVec Ideal S512x256 .f32) (g c : FVec Ideal S256 .f32) (lw : FVec Ideal S256x1 .f32) (lb : FVec Ideal S1 .f32)
    (b : Fin 4) (t : Fin 128) :
    durationTile h g c lw lb b (ix2 0 t)
      = duration (fun j => k0_pay43 (F := Ideal) h g c (ix2 (row b t) j)) (fun j => lw (ix2 j 0)) (lb (ix1 0)) := by
  rw [← duration_apply]
  have key : ∀ (o : Nat) (ho : o = 128 * b.val) (s : S1x512.Slices ![0, o] S1x128) (y : FVec Ideal S1x512 .f32),
      extractStridedSlice S1x128 ![0, o] y s (ix2 0 t) = y (ix2 0 (row b t)) := by
    intro o ho s y
    subst ho
    pointwise
    rfl
  fin_cases b
  · exact key 0 rfl slices_S1x512_o0_0_S1x128 (k0_pay50 h (Scalar.ofBits .f32 0x00000000#32) g c lw lb)
  · exact key 128 rfl slices_S1x512_o0_128_S1x128 (k0_pay50 h (Scalar.ofBits .f32 0x00000000#32) g c lw lb)
  · exact key 256 rfl slices_S1x512_o0_256_S1x128 (k0_pay50 h (Scalar.ofBits .f32 0x00000000#32) g c lw lb)
  · exact key 384 rfl slices_S1x512_o0_384_S1x128 (k0_pay50 h (Scalar.ofBits .f32 0x00000000#32) g c lw lb)

end Cert.Proof.KernelDuration

end
-- ==== Proof.KernelValue.lean ====
/- THE KERNEL'S RESULTS. Each result is stored batch by batch; over finite arguments every batch is the stated one. -/
module

public import proofs.«01_k».proof.Proof.KernelBlocks
public import proofs.«01_k».proof.Proof.KernelAttn
public import proofs.«01_k».proof.Proof.KernelDuration

@[expose] public section

set_option maxRecDepth 16384

noncomputable section

namespace Cert.Proof.KernelValue

open Idealize.ShloMosaic Idealize.ShloMosaic.TcCoe Cert.KernelIdeal Cert.KernelIdeal.Gen Cert.Proof.Spec Cert.Proof.Finite
open Cert.Proof.KernelBlocks Cert.Proof.KernelAttn Cert.Proof.KernelDuration

/-- Reading a whole array is the array. -/
theorem ld_512x256 (x : Vec Ideal S512x256 .f32) : View.ld x r0_3 = x := by
  funext i; idx_vars i; pointwise
theorem ld_512 (x : Vec Ideal S512 .f32) : View.ld x r0_4 = x := by
  funext i; idx_vars i; pointwise
theorem ld_256x512 (x : Vec Ideal S256x512 .f32) : View.ld x r0_5 = x := by
  funext i; idx_vars i; pointwise
theorem ld_256 (x : Vec Ideal S256 .f32) : View.ld x r0_6 = x := by
  funext i; idx_vars i; pointwise
theorem ld_160x240 (x : Vec Ideal S160x240 .f32) : View.ld x r0_7 = x := by
  funext i; idx_vars i; pointwise
theorem ld_160 (x : Vec Ideal S160 .f32) : View.ld x r0_12 = x := by
  funext i; idx_vars i; pointwise
theorem ld_80x160 (x : Vec Ideal S80x160 .f32) : View.ld x r0_13 = x := by
  funext i; idx_vars i; pointwise
theorem ld_80 (x : Vec Ideal S80 .f32) : View.ld x r0_14 = x := by
  funext i; idx_vars i; pointwise
theorem ld_256x80 (x : Vec Ideal S256x80 .f32) : View.ld x r0_15 = x := by
  funext i; idx_vars i; pointwise
theorem ld_256x1 (x : Vec Ideal S256x1 .f32) : View.ld x r0_20 = x := by
  funext i; idx_vars i
  rw [Fin.fin_one_eq_zero i1]
  pointwise
theorem ld_1 (x : Vec Ideal S1 .f32) : View.ld x r0_21 = x := by
  funext i; idx_vars i
  rw [Fin.fin_one_eq_zero i0]
  pointwise

/-- Reading rows of the stacked weights. -/
theorem ld_kp (x : Vec Ideal S1024x768 .f32) (o : Fin 512) (k : Fin 768) : View.ld x r0_0 (ix2 o k) = x (ix2 ⟨o.val, by omega⟩ k) := by
  pointwise
theorem ld_dp1 (x : Vec Ideal S1024x768 .f32) (o : Fin 256) (k : Fin 768) : View.ld x r0_1 (ix2 o k) = x (ix2 ⟨512 + o.val, by omega⟩ k) := by
  pointwise
theorem ld_dp2 (x : Vec Ideal S1024x768 .f32) (o : Fin 256) (k : Fin 768) : View.ld x r0_2 (ix2 o k) = x (ix2 ⟨768 + o.val, by omega⟩ k) := by
  pointwise

/-- Reading a batch's channels. -/
def ldMel (x : Vec Ideal S320x512 .f32) : Fin 4 → Vec Ideal S80x512 .f32
  | 0 => View.ld x r0_8
  | 1 => View.ld x r0_9
  | 2 => View.ld x r0_10
  | 3 => View.ld x r0_11

theorem ldMel_apply (x : Vec Ideal S320x512 .f32) (b : Fin 4) (k : Fin 80) (t : Fin 512) :
    ldMel x b (ix2 k t) = x (ix2 ⟨80 * b.val + k.val, by omega⟩ t) := by
  fin_cases b
  · show View.ld x r0_8 (ix2 k t) = _
    pointwise
  · show View.ld x r0_9 (ix2 k t) = _
    pointwise
  · show View.ld x r0_10 (ix2 k t) = _
    pointwise
  · show View.ld x r0_11 (ix2 k t) = _
    pointwise

/-- A store of batch `b`'s tile puts the tile at batch `b`. -/
theorem tile_place (T : Fin 4 → FVec Ideal S1x512x128 .f32) (b : Fin 4) (n : Nat) (hn : n = b.val)
    (inb : ∀ a, (![n, 0, 0] : Fin 3 → Nat) a + S1x512x128.size a ≤ S4x512x128.size a) (x : S1x512x128.Idx) :
    T b x = (fun y : S4x512x128.Idx => T (y 0) (ix3 0 (y 1) (y 2))) ((Rect.unit (s := S4x512x128) ![n, 0, 0] S1x512x128.size inb).emb x) := by
  subst hn
  have hx : (x 0 : ℕ) = 0 := by have : (x 0 : ℕ) < 1 := (x 0).isLt; omega
  have e : (Rect.unit (s := S4x512x128) ![b.val, 0, 0] S1x512x128.size inb).emb x = ix3 b (x 1) (x 2) := by
    funext a
    apply Fin.ext
    fin_cases a
    · show b.val + 1 * (x 0 : ℕ) = b.val; omega
    · show 0 + 1 * (x 1 : ℕ) = x 1; omega
    · show 0 + 1 * (x 2 : ℕ) = x 2; omega
  rw [e]
  show T b x = T b (ix3 0 (x 1) (x 2))
  congr 1
  funext a
  apply Fin.ext
  fin_cases a
  · exact hx
  · rfl
  · rfl

/-- The same for a row of log durations. -/
theorem row_place (T : Fin 4 → FVec Ideal S1x128 .f32) (b : Fin 4) (n : Nat) (hn : n = b.val)
    (inb : ∀ a, (![n, 0] : Fin 2 → Nat) a + S1x128.size a ≤ S4x128.size a) (x : S1x128.Idx) :
    T b x = (fun y : S4x128.Idx => T (y 0) (ix2 0 (y 1))) ((Rect.unit (s := S4x128) ![n, 0] S1x128.size inb).emb x) := by
  subst hn
  have hx : (x 0 : ℕ) = 0 := by have : (x 0 : ℕ) < 1 := (x 0).isLt; omega
  have e : (Rect.unit (s := S4x128) ![b.val, 0] S1x128.size inb).emb x = ix2 b (x 1) := by
    funext a
    apply Fin.ext
    fin_cases a
    · show b.val + 1 * (x 0 : ℕ) = b.val; omega
    · show 0 + 1 * (x 1 : ℕ) = x 1; omega
  rw [e]
  show T b x = T b (ix2 0 (x 1))
  congr 1
  funext a
  apply Fin.ext
  fin_cases a
  · exact hx
  · rfl

/-- Four tiles stored at the four batches are read back by batch. -/
theorem tiles_canon (T : Fin 4 → FVec Ideal S1x512x128 .f32) (y : S4x512x128.Idx) :
    View.canon (Val := Elt Ideal) (s := S4x512x128) (e := .f32) [⟨r0_19, T 3⟩, ⟨r0_18, T 2⟩, ⟨r0_17, T 1⟩, ⟨r0_16, T 0⟩] y
      = T (y 0) (ix3 0 (y 1) (y 2)) := by
  refine View.canon_apply_of_pieces (fun y : S4x512x128.Idx => T (y 0) (ix3 0 (y 1) (y 2))) _ (fun p hp x => ?_) y
    (cover0_20 (F := Ideal) (T 3) (T 2) (T 1) (T 0) y)
  simp only [List.mem_cons, List.not_mem_nil, or_false] at hp
  rcases hp with rfl | rfl | rfl | rfl
  · exact tile_place T 3 3 rfl inb_S4x512x128_S1x512x128_3_0_0 x
  · exact tile_place T 2 2 rfl inb_S4x512x128_S1x512x128_2_0_0 x
  · exact tile_place T 1 1 rfl inb_S4x512x128_S1x512x128_1_0_0 x
  · exact tile_place T 0 0 rfl inb_S4x512x128_S1x512x128_0_0_0 x

theorem rows_canon (T : Fin 4 → FVec Ideal S1x128 .f32) (y : S4x128.Idx) :
    View.canon (Val := Elt Ideal) (s := S4x128) (e := .f32) [⟨r0_25, T 3⟩, ⟨r0_24, T 2⟩, ⟨r0_23, T 1⟩, ⟨r0_22, T 0⟩] y
      = T (y 0) (ix2 0 (y 1)) := by
  refine View.canon_apply_of_pieces (fun y : S4x128.Idx => T (y 0) (ix2 0 (y 1))) _ (fun p hp x => ?_) y
    (cover0_22 (F := Ideal) (T 3) (T 2) (T 1) (T 0) y)
  simp only [List.mem_cons, List.not_mem_nil, or_false] at hp
  rcases hp with rfl | rfl | rfl | rfl
  · exact row_place T 3 3 rfl inb_S4x128_S1x128_3_0 x
  · exact row_place T 2 2 rfl inb_S4x128_S1x128_2_0 x
  · exact row_place T 1 1 rfl inb_S4x128_S1x128_1_0 x
  · exact row_place T 0 0 rfl inb_S4x128_S1x128_0_0 x

/-- Weights whose taps are all real numbers are real numbers. -/
theorem isReal_of_taps (w : FVec Ideal S256x768 .f32) (h : ∀ o k p, IsReal (KernelText.taps w o k p)) (i : S256x768.Idx) : IsReal (w i) := by
  idx_vars i
  have e := h i0 ⟨i1.val % 256, Nat.mod_lt _ (by norm_num)⟩ ⟨i1.val / 256, by have := i1.isLt; omega⟩
  have hi : (⟨256 * (i1.val / 256) + i1.val % 256, by have := i1.isLt; omega⟩ : Fin 768) = i1 := Fin.ext (Nat.div_add_mod i1.val 256)
  unfold KernelText.taps at e
  exact hi ▸ e

section Body

/- The body's values over the blocks it is given. -/
variable (x0 : FVec Ideal S512x256 .f32) (x1 : FVec Ideal S320x512 .f32) (x2 : FVec Ideal S1024x768 .f32) (x3 : FVec Ideal S512 .f32)
  (x4 : FVec Ideal S256x512 .f32) (x5 : FVec Ideal S256 .f32) (x6 : FVec Ideal S160x240 .f32) (x7 : FVec Ideal S160 .f32)
  (x8 : FVec Ideal S80x160 .f32) (x9 : FVec Ideal S80 .f32) (x10 : FVec Ideal S256x80 .f32) (x11 : FVec Ideal S256 .f32)
  (x12 x13 x14 x15 x16 x17 : FVec Ideal S256 .f32) (x18 : FVec Ideal S256x1 .f32) (x19 : FVec Ideal S1 .f32)

/-- The keys' rows. -/
def keyArr : FVec Ideal S512x256 .f32 :=
  k0_pay11 (k0_pay1 (View.ld x2 r0_0)) (k0_pay4 x0) (k0_pay6 x0) (k0_pay7 x0) (Scalar.select (Scalar.cmpi .eq 128#32 0#32) 1#32 128#32)
    k0_pay8 k0_pay9 x3 x4 x5

/-- The queries' hidden rows. -/
def melArr : FVec Ideal S2048x160 .f32 := KernelMel.allConv x6 (ldMel x1) x7

/-- The duration predictor's first round and its second convolution. -/
def hiddenArr : FVec Ideal S512x256 .f32 := k0_pay43 (k0_pay42 (k0_pay2 (View.ld x2 r0_1)) (KernelText.stacked x0) x12) x13 x14
def convArr : FVec Ideal S512x256 .f32 :=
  k0_pay42 (k0_pay3 (View.ld x2 r0_2)) (KernelText.stacked (hiddenArr x0 x2 x12 x13 x14)) x15

theorem out20_apply (y : S4x512x128.Idx) :
    out0_20 (F := Ideal) x0 x1 x2 x3 x4 x5 x6 x7 x8 x9 x10 x11 x12 x13 x14 x15 x16 x17 x18 x19 y
      = attnTile (keyArr x0 x2 x3 x4 x5) (melArr x1 x6 x7) x8 x9 x10 x11 (y 0) (ix3 0 (y 1) (y 2)) := by
  refine Eq.trans ?_ (tiles_canon (attnTile (keyArr x0 x2 x3 x4 x5) (melArr x1 x6 x7) x8 x9 x10 x11) y)
  simp only [out0_20, k0_pay60, k0_pay61, k0_pay62, k0_pay63, k0_pay64, k0_pay65, k0_pay66, k0_pay67, k0_pay68, k0_pay69, k0_pay70,
    k0_pay55, k0_pay56, k0_pay57, k0_pay58, k0_pay59, ld_512x256, ld_512, ld_256x512, ld_256, ld_160x240, ld_160, ld_80x160, ld_80, ld_256x80]
  rfl

theorem out21_apply (y : S4x512x128.Idx) :
    out0_21 (F := Ideal) x0 x1 x2 x3 x4 x5 x6 x7 x8 x9 x10 x11 x12 x13 x14 x15 x16 x17 x18 x19 y
      = logprobTile (keyArr x0 x2 x3 x4 x5) (melArr x1 x6 x7) x8 x9 x10 x11 (y 0) (ix3 0 (y 1) (y 2)) := by
  refine Eq.trans ?_ (tiles_canon (logprobTile (keyArr x0 x2 x3 x4 x5) (melArr x1 x6 x7) x8 x9 x10 x11) y)
  simp only [out0_21, k0_pay60, k0_pay61, k0_pay62, k0_pay63, k0_pay64, k0_pay65, k0_pay66, k0_pay67, k0_pay68, k0_pay69, k0_pay70,
    k0_pay55, k0_pay56, k0_pay57, k0_pay58, k0_pay59, ld_512x256, ld_512, ld_256x512, ld_256, ld_160x240, ld_160, ld_80x160, ld_80, ld_256x80]
  rfl

theorem out22_apply (y : S4x128.Idx) :
    out0_22 (F := Ideal) x0 x1 x2 x3 x4 x5 x6 x7 x8 x9 x10 x11 x12 x13 x14 x15 x16 x17 x18 x19 y
      = durationTile (convArr x0 x2 x12 x13 x14 x15) x16 x17 x18 x19 (y 0) (ix2 0 (y 1)) := by
  refine Eq.trans ?_ (rows_canon (durationTile (convArr x0 x2 x12 x13 x14 x15) x16 x17 x18 x19) y)
  simp only [out0_22, k0_pay71, k0_pay72, k0_pay55, k0_pay56, k0_pay57, k0_pay58, k0_pay59, ld_512x256, ld_256, ld_256x1, ld_1]
  rw [second_conv]
  rfl

end Body

section Arguments

variable (m : (ℓ : Loc nD τ sig) → Buf (Elt Ideal) ℓ) (c : Dev nD)

/-- The keys' rows are the keys. -/
theorem key_row (b : Fin 4) :
    keyRows (keyArr (V m c main_v0) (V m c main_v4) (args m c).kpB1 (V m c main_v5) (args m c).kpB2) b = (args m c).key b := by
  funext j d
  refine (KernelText.keys_eq _ _ _ _ _ b j d).trans ?_
  rw [text_eq]
  have hw : KernelText.taps (View.ld (V m c main_v4 : FVec Ideal S1024x768 .f32) r0_0) = fun o k p => (args m c).kpW1 (ix3 o k p) := by
    funext o k p
    rw [← taps_kp]
    exact ld_kp _ _ _
  have h2 : (fun j k => (V m c main_v5 : FVec Ideal S256x512 .f32) (ix2 j k)) = fun j k => (args m c).kpW2 (ix3 j k 0) := by
    funext j k; exact dense_kp2 m c j k
  refine (congrArg (fun w => keys ((args m c).text b) w _ _ _ j d) hw).trans ?_
  rw [h2]
  rfl

/-- The queries' rows are the queries. -/
theorem query_row (b : Fin 4) :
    queryRows (melArr (V m c main_v1) (V m c main_v7) (args m c).qpB1) (V m c main_v8) (args m c).qpB2 (V m c main_v9) (args m c).qpB3 b
      = (args m c).query b := by
  funext i d
  refine (KernelMel.queries_eq _ _ _ _ _ _ _ b i d).trans ?_
  have hx : KernelMel.mel (ldMel (V m c main_v1) b) = fun t k => (args m c).mels (ix3 b k t) := by
    funext t k
    refine (ldMel_apply _ b k t).trans ?_
    exact mel_eq m c b t k
  have h1 : KernelMel.taps (V m c main_v7 : FVec Ideal S160x240 .f32) = fun o k p => (args m c).qpW1 (ix3 o k p) := by
    funext o k p; exact taps_qp m c o k p
  have h2 : (fun j k => (V m c main_v8 : FVec Ideal S80x160 .f32) (ix2 j k)) = fun j k => (args m c).qpW2 (ix3 j k 0) := by
    funext j k; exact dense_qp2 m c j k
  have h3 : (fun j k => (V m c main_v9 : FVec Ideal S256x80 .f32) (ix2 j k)) = fun j k => (args m c).qpW3 (ix3 j k 0) := by
    funext j k; exact dense_qp3 m c j k
  rw [hx, h1, h2, h3]
  rfl

/-- The first round's weights, read from below the keys'. -/
theorem dp1_taps : KernelText.taps (k0_pay2 (View.ld (V m c main_v4 : FVec Ideal S1024x768 .f32) r0_1)) = fun o k p => (args m c).dpW1 (ix3 o k p) := by
  funext o k p
  rw [← taps_dp1, k0_pay2, shapeCast_self]
  exact ld_dp1 _ _ _

/-- The second round's weights, read from below the first one's. -/
theorem dp2_taps : KernelText.taps (k0_pay3 (View.ld (V m c main_v4 : FVec Ideal S1024x768 .f32) r0_2)) = fun o k p => (args m c).dpW2 (ix3 o k p) := by
  funext o k p
  rw [← taps_dp2, k0_pay3, shapeCast_self]
  exact ld_dp2 _ _ _

/-- The first round's rows. -/
theorem hidden1_row (hf : (args m c).Finite) (b : Fin 4) :
    KernelText.text (hiddenArr (V m c main_v0) (V m c main_v4) (args m c).dpB1 (args m c).dpG1 (args m c).dpC1) b = (args m c).hidden1 b := by
  funext t o
  refine (KernelDuration.round_apply _ _ _ _ _ (fun b t k => ?_) (isReal_of_taps _ fun o k p => ?_) b t o).trans ?_
  · rw [text_eq]; exact hf.text b t k
  · rw [dp1_taps]; exact hf.dpW1 _
  · rw [text_eq, dp1_taps]; rfl

/-- The second round's rows. -/
theorem hidden2_row (hf : (args m c).Finite) (b : Fin 4) (t : Fin 128) (o : Fin 256) :
    k0_pay43 (F := Ideal) (convArr (V m c main_v0) (V m c main_v4) (args m c).dpB1 (args m c).dpG1 (args m c).dpC1 (args m c).dpB2)
      (args m c).dpG2 (args m c).dpC2 (ix2 (KernelText.row b t) o) = (args m c).hidden2 b t o := by
  refine (KernelDuration.round_apply _ _ _ _ _ (fun b t k => ?_) (isReal_of_taps _ fun o k p => ?_) b t o).trans ?_
  · rw [hidden1_row m c hf]; exact hf.hidden1 b t k
  · rw [dp2_taps]; exact hf.dpW2 _
  · rw [hidden1_row m c hf, dp2_taps]; rfl

/-- The tiles over the blocks. -/
theorem attn_tile (hf : (args m c).Finite) (b : Fin 4) (i : Fin 512) (j : Fin 128) :
    attnTile (keyArr (V m c main_v0) (V m c main_v4) (args m c).kpB1 (V m c main_v5) (args m c).kpB2)
      (melArr (V m c main_v1) (V m c main_v7) (args m c).qpB1) (V m c main_v8) (args m c).qpB2 (V m c main_v9) (args m c).qpB3 b (ix3 0 i j)
      = (args m c).attn b i j := by
  refine (attnTile_apply _ _ _ _ _ _ _ (fun i d => ?_) (fun j d => ?_) _ _).trans ?_
  · rw [query_row]; exact hf.query _ _ _
  · rw [key_row]; exact hf.key _ _ _
  · rw [query_row, key_row]; rfl

theorem logprob_tile (hf : (args m c).Finite) (b : Fin 4) (i : Fin 512) (j : Fin 128) :
    logprobTile (keyArr (V m c main_v0) (V m c main_v4) (args m c).kpB1 (V m c main_v5) (args m c).kpB2)
      (melArr (V m c main_v1) (V m c main_v7) (args m c).qpB1) (V m c main_v8) (args m c).qpB2 (V m c main_v9) (args m c).qpB3 b (ix3 0 i j)
      = (args m c).logprob b i j := by
  refine (logprobTile_apply _ _ _ _ _ _ _ (fun i d => ?_) (fun j d => ?_) _ _).trans ?_
  · rw [query_row]; exact hf.query _ _ _
  · rw [key_row]; exact hf.key _ _ _
  · rw [query_row, key_row]; rfl

theorem duration_tile (hf : (args m c).Finite) (b : Fin 4) (t : Fin 128) :
    durationTile (convArr (V m c main_v0) (V m c main_v4) (args m c).dpB1 (args m c).dpG1 (args m c).dpC1 (args m c).dpB2)
      (args m c).dpG2 (args m c).dpC2 (args m c).dpLW (args m c).dpLB b (ix2 0 t) = (args m c).logDuration b t := by
  refine (durationTile_apply _ _ _ _ _ b t).trans ?_
  have e : (fun j => k0_pay43 (F := Ideal) (convArr (V m c main_v0) (V m c main_v4) (args m c).dpB1 (args m c).dpG1 (args m c).dpC1 (args m c).dpB2)
      (args m c).dpG2 (args m c).dpC2 (ix2 (KernelText.row b t) j)) = (args m c).hidden2 b t := funext fun j => hidden2_row m c hf b t j
  rw [e]
  rfl

/-- The first result. -/
theorem attn_value (hf : (args m c).Finite) :
    (dats m 0 c).arrAt 20 cfg0.N = fun y : S4x512x128.Idx => (args m c).attn (y 0) (y 1) (y 2) := by
  refine (dats m 0 c).arrAt_eq_of_after_last 20 t0_0 (by decide +kernel) _ fun j => ?_
  blk_simp
  rw [after0_20]
  refine (out20_apply _ _ _ _ _ _ _ _ _ _ _ _ _ _ _ _ _ _ _ _ _).trans ?_
  rw [block0, block1, block2, block3, block4, block5, block6, block7, block8, block9, block10, block11]
  exact attn_tile m c hf (j 0) (j 1) (j 2)

/-- The second result. -/
theorem logprob_value (hf : (args m c).Finite) :
    (dats m 0 c).arrAt 21 cfg0.N = fun y : S4x512x128.Idx => (args m c).logprob (y 0) (y 1) (y 2) := by
  refine (dats m 0 c).arrAt_eq_of_after_last 21 t0_0 (by decide +kernel) _ fun j => ?_
  blk_simp
  rw [after0_21]
  refine (out21_apply _ _ _ _ _ _ _ _ _ _ _ _ _ _ _ _ _ _ _ _ _).trans ?_
  rw [block0, block1, block2, block3, block4, block5, block6, block7, block8, block9, block10, block11]
  exact logprob_tile m c hf (j 0) (j 1) (j 2)

/-- The third result. -/
theorem duration_value (hf : (args m c).Finite) :
    (dats m 0 c).arrAt 22 cfg0.N = fun y : S4x128.Idx => (args m c).logDuration (y 0) (y 1) := by
  refine (dats m 0 c).arrAt_eq_of_after_last 22 t0_0 (by decide +kernel) _ fun j => ?_
  blk_simp
  rw [after0_22]
  refine (out22_apply _ _ _ _ _ _ _ _ _ _ _ _ _ _ _ _ _ _ _ _ _).trans ?_
  rw [block0, block2, block12, block13, block14, block15, block16, block17, block18, block19]
  exact duration_tile m c hf (j 0) (j 1)

end Arguments

end Cert.Proof.KernelValue

end
-- ==== Proof.ReferenceValue.lean ====
/- WHAT THE REFERENCE COMPUTES. Its convolutions, dense layers, attention and duration predictor read entry by entry. -/
module

public import proofs.«01_k».proof.Proof.Gen.ReferenceIdeal.Read
public import Idealize.ShloMosaic.Lib.Pipeline.ValueKit
public import proofs.«01_k».proof.Proof.Results

@[expose] public section

set_option maxRecDepth 16384

noncomputable section

namespace Cert.Proof.ReferenceValue

open Idealize.ShloMosaic Idealize.ShloMosaic.TcCoe Cert.ReferenceIdeal Cert.ReferenceIdeal.Gen Cert.ReferenceIdeal.Read Cert.Proof.Spec Cert.Proof.Finite

/-- The pads' zero. -/
theorem sitofp_zero : (FloatOps.sitofp .f32 (0#32) : Ideal .f32) = 0 := by
  show ((((0#32 : BitVec 32).toInt : ℝ)) : EReal) = 0
  norm_num

/-- A zero-padded sequence read one step earlier and one step later. -/
theorem pad_before {n : Nat} (f : Fin n → EReal) (t : Fin n) :
    (if h : 1 ≤ t.val ∧ t.val - 1 < n then f ⟨t.val - 1, h.2⟩ else (FloatOps.sitofp .f32 (0#32) : Ideal .f32)) = before f t := by
  unfold before
  by_cases ht : t.val < 1
  · rw [dif_neg (by omega), dif_pos ht]; exact sitofp_zero
  · rw [dif_pos (by omega), dif_neg ht]

theorem pad_after {n : Nat} (f : Fin n → EReal) (t : Fin n) :
    (if h : 1 ≤ 2 + t.val ∧ 2 + t.val - 1 < n then f ⟨2 + t.val - 1, h.2⟩ else (FloatOps.sitofp .f32 (0#32) : Ideal .f32)) = after f t := by
  unfold after
  by_cases ht : t.val + 1 < n
  · rw [dif_pos (by omega), dif_pos ht]; exact congrArg f (Fin.ext (by show 2 + t.val - 1 = t.val + 1; omega))
  · rw [dif_neg (by omega), dif_neg ht]; exact sitofp_zero

theorem pad_here {n : Nat} (f : Fin n → EReal) (t : Fin n) :
    (if h : 1 ≤ 1 + t.val ∧ 1 + t.val - 1 < n then f ⟨1 + t.val - 1, h.2⟩ else (FloatOps.sitofp .f32 (0#32) : Ideal .f32)) = f t := by
  rw [dif_pos (by omega)]; exact congrArg f (Fin.ext (by show 1 + t.val - 1 = t.val; omega))

section Keys

variable (x0 : FVec Ideal S4x128x256 .f32) (x3 : FVec Ideal S512x256x3 .f32) (x4 : FVec Ideal S512 .f32)
  (x5 : FVec Ideal S256x512x1 .f32) (x6 : FVec Ideal S256 .f32)

theorem text_before (b : Fin 4) (t : Fin 128) (k : Fin 256) :
    val_main_v1 (F := Ideal) x0 (ix3 b t k) = before (fun s => (x0 (ix3 b s k) : EReal)) t := by
  rw [← pad_before]
  pointwise [val_main_v1, val_main_v0, val_main_call0_v0, val_main_c]
theorem text_here (b : Fin 4) (t : Fin 128) (k : Fin 256) : val_main_v5 (F := Ideal) x0 (ix3 b t k) = x0 (ix3 b t k) := by
  refine Eq.trans ?_ (pad_here (fun s => (x0 (ix3 b s k) : EReal)) t)
  pointwise [val_main_v5, val_main_v0, val_main_call0_v0, val_main_c]
theorem text_after (b : Fin 4) (t : Fin 128) (k : Fin 256) :
    val_main_v10 (F := Ideal) x0 (ix3 b t k) = after (fun s => (x0 (ix3 b s k) : EReal)) t := by
  rw [← pad_after]
  pointwise [val_main_v10, val_main_v0, val_main_call0_v0, val_main_c]

/-- The convolution of the texts. -/
theorem key_conv (b : Fin 4) (t : Fin 128) (o : Fin 512) :
    val_main_v17 (F := Ideal) x0 x3 x4 (ix3 b t o)
      = conv3 (fun t k => x0 (ix3 b t k)) (fun o k p => x3 (ix3 o k p)) (fun j => x4 (ix1 j)) t o := by
  pointwise [val_main_v17, val_main_v16, val_main_v15, val_main_v14, val_main_v13, val_main_v9, val_main_v8, val_main_v4, val_main_v3, val_main_v2,
    val_main_v7, val_main_v6, val_main_v12, val_main_v11]
  simp only [text_before, text_here, text_after]
  rfl

/-- The keys. -/
theorem key_value (b : Fin 4) (t : Fin 128) (d : Fin 256) :
    val_main_v23 (F := Ideal) x0 x3 x4 x5 x6 (ix3 b t d)
      = keys (fun t k => x0 (ix3 b t k)) (fun o k p => x3 (ix3 o k p)) (fun j => x4 (ix1 j)) (fun j k => x5 (ix3 j k 0)) (fun j => x6 (ix1 j)) t d := by
  pointwise [val_main_v23, val_main_v22, val_main_v21, val_main_v20, val_main_v19, val_main_v18, val_main_call1_v0, val_main_call1_cst]
  simp only [key_conv]
  rfl

end Keys

section Queries

variable (x1 : FVec Ideal S4x80x512 .f32) (x7 : FVec Ideal S160x80x3 .f32) (x8 : FVec Ideal S160 .f32) (x9 : FVec Ideal S80x160x1 .f32)
  (x10 : FVec Ideal S80 .f32) (x11 : FVec Ideal S256x80x1 .f32) (x12 : FVec Ideal S256 .f32)

theorem mel_before (b : Fin 4) (t : Fin 512) (k : Fin 80) :
    val_main_v27 (F := Ideal) x1 (ix3 b t k) = before (fun s => (x1 (ix3 b k s) : EReal)) t := by
  rw [← pad_before]
  pointwise [val_main_v27, val_main_v26, val_main_v25, val_main_call2_v0, val_main_c_0]
theorem mel_here (b : Fin 4) (t : Fin 512) (k : Fin 80) : val_main_v31 (F := Ideal) x1 (ix3 b t k) = x1 (ix3 b k t) := by
  refine Eq.trans ?_ (pad_here (fun s => (x1 (ix3 b k s) : EReal)) t)
  pointwise [val_main_v31, val_main_v26, val_main_v25, val_main_call2_v0, val_main_c_0]
theorem mel_after (b : Fin 4) (t : Fin 512) (k : Fin 80) :
    val_main_v36 (F := Ideal) x1 (ix3 b t k) = after (fun s => (x1 (ix3 b k s) : EReal)) t := by
  rw [← pad_after]
  pointwise [val_main_v36, val_main_v26, val_main_v25, val_main_call2_v0, val_main_c_0]

/-- The convolution of the mels. -/
theorem query_conv (b : Fin 4) (t : Fin 512) (o : Fin 160) :
    val_main_v43 (F := Ideal) x1 x7 x8 (ix3 b t o)
      = conv3 (fun t k => x1 (ix3 b k t)) (fun o k p => x7 (ix3 o k p)) (fun j => x8 (ix1 j)) t o := by
  pointwise [val_main_v43, val_main_v42, val_main_v41, val_main_v40, val_main_v39, val_main_v35, val_main_v34, val_main_v30, val_main_v29, val_main_v28,
    val_main_v33, val_main_v32, val_main_v38, val_main_v37]
  simp only [mel_before, mel_here, mel_after]
  rfl

/-- The queries. -/
theorem query_value (b : Fin 4) (t : Fin 512) (d : Fin 256) :
    val_main_v55 (F := Ideal) x1 x7 x8 x9 x10 x11 x12 (ix3 b t d)
      = queries (fun t k => x1 (ix3 b k t)) (fun o k p => x7 (ix3 o k p)) (fun j => x8 (ix1 j)) (fun j k => x9 (ix3 j k 0)) (fun j => x10 (ix1 j))
          (fun j k => x11 (ix3 j k 0)) (fun j => x12 (ix1 j)) t d := by
  pointwise [val_main_v55, val_main_v54, val_main_v53, val_main_v52, val_main_v51, val_main_v50, val_main_v49, val_main_v48, val_main_v47,
    val_main_v46, val_main_v45, val_main_v44, val_main_call3_v0, val_main_call3_cst, val_main_call4_v0, val_main_call4_cst]
  simp only [query_conv]
  rfl

end Queries

section Attention

variable (x0 : FVec Ideal S4x128x256 .f32) (x1 : FVec Ideal S4x80x512 .f32) (x2 : IVec S4x128 1) (x3 : FVec Ideal S512x256x3 .f32)
  (x4 : FVec Ideal S512 .f32) (x5 : FVec Ideal S256x512x1 .f32) (x6 : FVec Ideal S256 .f32) (x7 : FVec Ideal S160x80x3 .f32)
  (x8 : FVec Ideal S160 .f32) (x9 : FVec Ideal S80x160x1 .f32) (x10 : FVec Ideal S80 .f32) (x11 : FVec Ideal S256x80x1 .f32)
  (x12 : FVec Ideal S256 .f32)

/-- The logits. -/
theorem logit_value (b : Fin 4) (t : Fin 512) (j : Fin 128) :
    val_main_v65 (F := Ideal) x0 x1 x3 x4 x5 x6 x7 x8 x9 x10 x11 x12 (ix3 b t j)
      = logit (fun d => val_main_v55 (F := Ideal) x1 x7 x8 x9 x10 x11 x12 (ix3 b t d)) (fun d => val_main_v23 (F := Ideal) x0 x3 x4 x5 x6 (ix3 b j d)) := by
  pointwise [val_main_v65, val_main_v64, val_main_cst_1, val_main_v63, val_main_cst, val_main_v62, val_main_v61, val_main_v60, val_main_v59,
    val_main_v58, val_main_v57, val_main_v56, val_main_v24, logit]

/-- With no text masked the attention is the softmax of the logits. -/
theorem softmax_value (h : ∀ i, x2 i = 0#1) (b : Fin 4) (t : Fin 512) (j : Fin 128) :
    val_main_v78 (F := Ideal) x0 x1 x2 x3 x4 x5 x6 x7 x8 x9 x10 x11 x12 (ix3 b t j)
      = softmax (fun j => val_main_v65 (F := Ideal) x0 x1 x3 x4 x5 x6 x7 x8 x9 x10 x11 x12 (ix3 b t j)) j := by
  have e : val_main_v67 (F := Ideal) x0 x1 x2 x3 x4 x5 x6 x7 x8 x9 x10 x11 x12 = val_main_v65 (F := Ideal) x0 x1 x3 x4 x5 x6 x7 x8 x9 x10 x11 x12 := by
    funext i
    idx_vars i
    pointwise [val_main_v67, val_main_call5_v1, val_main_v66]
    rw [h]
    rfl
  pointwise [val_main_v78, val_main_v77, val_main_v76, val_main_v75, val_main_cst_5, val_main_v74, val_main_v73, val_main_v72, val_main_v71, val_main_v70,
    val_main_v69, val_main_cst_4, val_main_v68, val_main_cst_3, e]
  simp only [ofBits_neg_inf, max_eq_right bot_le]
  rfl

end Attention

section Duration

variable (x0 : FVec Ideal S4x128x256 .f32) (x2 : IVec S4x128 1) (x13 : FVec Ideal S256x256x3 .f32) (x14 x15 x16 : FVec Ideal S256 .f32)
  (x17 : FVec Ideal S256x256x3 .f32) (x18 x19 x20 : FVec Ideal S256 .f32) (x21 : FVec Ideal S256x1 .f32) (x22 : FVec Ideal S1 .f32)

theorem round_before (b : Fin 4) (t : Fin 128) (k : Fin 256) :
    val_main_v80 (F := Ideal) x0 (ix3 b t k) = before (fun s => (x0 (ix3 b s k) : EReal)) t := by
  rw [← pad_before]
  pointwise [val_main_v80, val_main_v79, val_main_call6_v0, val_main_c_6]
theorem round_here (b : Fin 4) (t : Fin 128) (k : Fin 256) : val_main_v84 (F := Ideal) x0 (ix3 b t k) = x0 (ix3 b t k) := by
  refine Eq.trans ?_ (pad_here (fun s => (x0 (ix3 b s k) : EReal)) t)
  pointwise [val_main_v84, val_main_v79, val_main_call6_v0, val_main_c_6]
theorem round_after (b : Fin 4) (t : Fin 128) (k : Fin 256) :
    val_main_v89 (F := Ideal) x0 (ix3 b t k) = after (fun s => (x0 (ix3 b s k) : EReal)) t := by
  rw [← pad_after]
  pointwise [val_main_v89, val_main_v79, val_main_call6_v0, val_main_c_6]

/-- A round's convolution and cut-off. -/
theorem round_conv (b : Fin 4) (t : Fin 128) (o : Fin 256) :
    val_main_v97 (F := Ideal) x0 x13 x14 (ix3 b t o)
      = relu (conv3 (fun t k => x0 (ix3 b t k)) (fun o k p => x13 (ix3 o k p)) (fun j => x14 (ix1 j)) t o) := by
  pointwise [val_main_v97, val_main_call7_v0, val_main_call7_cst, val_main_v96, val_main_v95, val_main_v94, val_main_v93, val_main_v92, val_main_v91,
    val_main_v90, val_main_v88, val_main_v87, val_main_v86, val_main_v85, val_main_v83, val_main_v82, val_main_v81]
  simp only [round_before, round_here, round_after]
  rfl

/-- The mean of a row. -/
theorem round_mean (b : Fin 4) (t : Fin 128) :
    val_main_v101 (F := Ideal) x0 x13 x14 (ix3 b t 0) = mean (fun o => val_main_v97 (F := Ideal) x0 x13 x14 (ix3 b t o)) := by
  pointwise [val_main_v101, val_main_v100, val_main_cst_8, val_main_v99, val_main_v98, val_main_cst_7]
  rw [ofBits_256]
  rfl

/-- The variance of a row. -/
theorem round_variance (b : Fin 4) (t : Fin 128) :
    val_main_v102 (F := Ideal) x0 x13 x14 (ix3 b t 0) = variance (fun o => val_main_v97 (F := Ideal) x0 x13 x14 (ix3 b t o)) := by
  pointwise [val_main_v102, val_main_call8_v13, val_main_call8_cst_3, val_main_call8_v12, val_main_call8_v11, val_main_call8_v10, val_main_call8_v9,
    val_main_call8_cst_2, val_main_call8_v8, val_main_call8_cst_1, val_main_call8_v7, val_main_c_9, val_main_call8_v6, val_main_call8_v5, val_main_call8_v4,
    val_main_call8_v3, val_main_call8_v2, val_main_call8_cst_0, val_main_call8_v1, val_main_call8_v0, val_main_call8_cst]
  have h0 : ∀ x : EReal, x - (FloatOps.sitofp .f32 (0#32) : Ideal .f32) = x := fun x => by
    have e : x - (FloatOps.sitofp .f32 (0#32) : Ideal .f32) = x - 0 := congrArg (fun z : EReal => x - z) sitofp_zero
    rw [e, sub_zero]
  have hp : (0 : EReal) < ((256 : ℝ) : EReal) := by exact_mod_cast (by norm_num : (0 : ℝ) < 256)
  rw [h0, ofBits_256, if_pos hp]
  rfl

/-- A round of the duration predictor. -/
theorem round_value (b : Fin 4) (t : Fin 128) (o : Fin 256) :
    val_main_v115 (F := Ideal) x0 x13 x14 x15 x16 (ix3 b t o)
      = hidden (fun t k => x0 (ix3 b t k)) (fun o k p => x13 (ix3 o k p)) (fun j => x14 (ix1 j)) (fun j => x15 (ix1 j)) (fun j => x16 (ix1 j)) t o := by
  pointwise [val_main_v115, val_main_v114, val_main_v113, val_main_v112, val_main_v111, val_main_v110, val_main_v109, val_main_v108, val_main_v107,
    val_main_v106, val_main_v105, val_main_cst_10, val_main_v104, val_main_v103]
  rw [round_mean, round_variance]
  simp only [round_conv]
  rfl

/-- The second round is formed as the first one is. -/
theorem second_round : val_main_v152 (F := Ideal) x0 x13 x14 x15 x16 x17 x18 x19 x20
    = val_main_v115 (F := Ideal) (val_main_v115 (F := Ideal) x0 x13 x14 x15 x16) x17 x18 x19 x20 := rfl

/-- With no text masked the log durations are the last dense layer's. -/
theorem duration_value (h : ∀ i, x2 i = 0#1) (b : Fin 4) (t : Fin 128) :
    val_main_v158 (F := Ideal) x0 x2 x13 x14 x15 x16 x17 x18 x19 x20 x21 x22 (ix2 b t)
      = duration (fun o => val_main_v152 (F := Ideal) x0 x13 x14 x15 x16 x17 x18 x19 x20 (ix3 b t o)) (fun j => x21 (ix2 j 0)) (x22 (ix1 0)) := by
  pointwise [val_main_v158, val_main_v157, val_main_v156, val_main_v155, val_main_v154, val_main_v153]
  rw [h]
  rfl

end Duration

section Results

variable (A : Args)

/-- The reference's logits are the second result. -/
theorem logprob_eq : val_main_v65 (F := Ideal) A.texts A.mels A.kpW1 A.kpB1 A.kpW2 A.kpB2 A.qpW1 A.qpB1 A.qpW2 A.qpB2 A.qpW3 A.qpB3
    = fun y : S4x512x128.Idx => A.logprob (y 0) (y 1) (y 2) := by
  funext y
  idx_vars y
  refine (logit_value _ _ _ _ _ _ _ _ _ _ _ _ _ _ _).trans ?_
  simp only [query_value, key_value]
  rfl

/-- Its attention, no text being masked, is the first. -/
theorem attn_eq (x2 : IVec S4x128 1) (h : ∀ i, x2 i = 0#1) :
    val_main_v78 (F := Ideal) A.texts A.mels x2 A.kpW1 A.kpB1 A.kpW2 A.kpB2 A.qpW1 A.qpB1 A.qpW2 A.qpB2 A.qpW3 A.qpB3
      = fun y : S4x512x128.Idx => A.attn (y 0) (y 1) (y 2) := by
  funext y
  idx_vars y
  refine (softmax_value _ _ _ _ _ _ _ _ _ _ _ _ _ h _ _ _).trans ?_
  rw [logprob_eq]
  rfl

/-- Its log durations, no text being masked, are the third. -/
theorem logDuration_eq (x2 : IVec S4x128 1) (h : ∀ i, x2 i = 0#1) :
    val_main_v158 (F := Ideal) A.texts x2 A.dpW1 A.dpB1 A.dpG1 A.dpC1 A.dpW2 A.dpB2 A.dpG2 A.dpC2 A.dpLW A.dpLB
      = fun y : S4x128.Idx => A.logDuration (y 0) (y 1) := by
  funext y
  idx_vars y
  refine (duration_value _ _ _ _ _ _ _ _ _ _ _ _ h _ _).trans ?_
  rw [second_round]
  simp only [round_value]
  rfl

end Results

end Cert.Proof.ReferenceValue

end
-- ==== Proof.Precondition.lean ====
/- THE PRECONDITION READ. The test `|x| < ∞` holds of an extended real exactly when it is a real number, and a mask whose
   negation is all ones masks nothing. -/
module

public import proofs.«01_k».proof.Defs
public import proofs.«01_k».proof.Proof.Gen.Pre_finite_unmasked
public import proofs.«01_k».proof.Proof.KernelBlocks

@[expose] public section

set_option maxRecDepth 16384

noncomputable section

namespace Cert.Proof.Precondition

open Idealize.ShloMosaic Idealize.ShloMosaic.TcCoe Cert.Proof.Spec Cert.Proof.Finite Cert.Proof.KernelBlocks

/-- An array that passes the test holds real numbers. -/
theorem isReal_of_test {s : Shape} (x : FVec Ideal s .f32) (d : Fin 0 → Fin s.rank) (b : (⟨0, ![]⟩ : Shape).BroadcastsInDim s d)
    (h : cmpf .olt (Host.absf x) (broadcastInDim s d b (constant ⟨0, ![]⟩ .f32 0x7F800000#32)) = fun _ => 1#1) (i : s.Idx) : IsReal (x i) := by
  have e := congrFun h i
  change Ideal.cmp .olt (max (x i) (-(x i))) (Ideal.ofBits .f32 0x7F800000#32) = 1#1 at e
  rw [ofBits_inf] at e
  by_contra hn
  have hlt : ¬ (max (x i : EReal) (-(x i)) < ⊤) := fun hl => hn (isReal_of_abs_lt_top hl)
  simp [Ideal.cmp, hlt] at e

/-- A mask whose negation is all ones is all zeros. -/
theorem zero_of_noti {s : Shape} (x : IVec s 1) (h : noti x = fun _ => 1#1) (i : s.Idx) : x i = 0#1 := by
  have e := congrFun h i
  change ~~~(x i) = 1#1 at e
  generalize x i = v at e ⊢
  revert v
  decide

attribute [local instance] Cert.Pre_finite_unmasked.Gen.facts

variable (m : (ℓ : Loc Cert.KernelIdeal.nD Cert.KernelIdeal.τ Cert.KernelIdeal.sig) → Buf (Elt Ideal) ℓ)

/-- Under the precondition no text is masked. -/
theorem unmasked (h : Cert.Pre_KernelIdeal_finite_unmasked m) (c : Dev Cert.KernelIdeal.nD) :
    ∀ i, (m ((c.tc : Thread Cert.KernelIdeal.nD Cert.KernelIdeal.τ).loc Cert.KernelIdeal.main_arg2) : IVec Cert.KernelIdeal.S4x128 1) i = 0#1 :=
  zero_of_noti _ (h c).1

/-- Under the precondition the arguments that have to be finite are. -/
theorem finite (h : Cert.Pre_KernelIdeal_finite_unmasked m) (c : Dev Cert.KernelIdeal.nD) : (args m c).Finite := by
  obtain ⟨-, h0, h1, h3, h4, h5, h6, h7, h8, h9, h10, h11, h12, h13, h14, h15, h16, h17⟩ := h c
  exact {
    texts := isReal_of_test (args m c).texts _ _ h0
    mels := isReal_of_test (args m c).mels _ _ h1
    kpW1 := isReal_of_test (args m c).kpW1 _ _ h3
    kpB1 := isReal_of_test (args m c).kpB1 _ _ h4
    kpW2 := isReal_of_test (args m c).kpW2 _ _ h5
    kpB2 := isReal_of_test (args m c).kpB2 _ _ h6
    qpW1 := isReal_of_test (args m c).qpW1 _ _ h7
    qpB1 := isReal_of_test (args m c).qpB1 _ _ h8
    qpW2 := isReal_of_test (args m c).qpW2 _ _ h9
    qpB2 := isReal_of_test (args m c).qpB2 _ _ h10
    qpW3 := isReal_of_test (args m c).qpW3 _ _ h11
    qpB3 := isReal_of_test (args m c).qpB3 _ _ h12
    dpW1 := isReal_of_test (args m c).dpW1 _ _ h13
    dpB1 := isReal_of_test (args m c).dpB1 _ _ h14
    dpG1 := isReal_of_test (args m c).dpG1 _ _ h15
    dpC1 := isReal_of_test (args m c).dpC1 _ _ h16
    dpW2 := isReal_of_test (args m c).dpW2 _ _ h17 }

end Cert.Proof.Precondition

end
-- ==== Proof.lean ====
/- THE PROOF OF `Cert.Claim`. The frames of the kernel are those of its pipeline, the reference's is its run's. The
   kernel's three results and the reference's are the attention, the logits and the log durations of `Proof/Results.lean`:
   `Proof/KernelValue.lean` says so of the kernel, `Proof/ReferenceValue.lean` of the reference, and
   `Proof/Precondition.lean` reads the precondition both rest on. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_unmasked
public import Idealize.ShloMosaic.Adequacy
public import Idealize.ShloMosaic.Init
public import proofs.«01_k».proof.Proof.KernelValue
public import proofs.«01_k».proof.Proof.ReferenceValue
public import proofs.«01_k».proof.Proof.Precondition

@[expose] public section

set_option maxRecDepth 16384

noncomputable section

namespace Cert.Proof

open Idealize.ShloMosaic Idealize.ShloMosaic.StableHlo Idealize.SL.Sem Cert.Proof.Spec

attribute [local instance] Cert.Kernel.Gen.facts Cert.KernelIdeal.Gen.facts Cert.ReferenceIdeal.Gen.facts Cert.Pre_finite_unmasked.Gen.facts

/-- The reference's frame: its run keeps the arguments, and it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Kernel and reference end with the same three arrays. -/
theorem algebraic : Cert.algebraic_KernelIdeal_ReferenceIdeal_pre_finite_unmasked := by
  intro m ρ m' ρ' hpre hag
  have hf := Precondition.finite m hpre
  refine ⟨fun c => fun y : Cert.KernelIdeal.S4x512x128.Idx => (KernelBlocks.args m c).attn (y 0) (y 1) (y 2),
    fun c => fun y : Cert.KernelIdeal.S4x512x128.Idx => (KernelBlocks.args m c).logprob (y 0) (y 1) (y 2),
    fun c => fun y : Cert.KernelIdeal.S4x128.Idx => (KernelBlocks.args m c).logDuration (y 0) (y 1), ?_, ?_⟩
  · exact (θ_run Cert.KernelIdeal.defs _ _).mono
      (fun _ h c => ⟨(h c).1.trans (KernelValue.attn_value m c (hf c)), (h c).2.1.trans (KernelValue.logprob_value m c (hf c)),
        (h c).2.2.1.trans (KernelValue.duration_value m c (hf c)), (h c).2.2.2⟩)
      (Cert.KernelIdeal.Value.run_blocks (F := Ideal) m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13, a14, a15, a16, a17, a18, a19, a20, a21, a22⟩ := hag c
    refine ⟨(h c).1.trans ?_, (h c).2.1.trans ?_, (h c).2.2.1.trans ?_, (h c).2.2.2⟩
    · refine (Cert.ReferenceIdeal.Read.val_main_v78_eq (launchContents m' c)).trans
        (Eq.trans ?_ (ReferenceValue.attn_eq (KernelBlocks.args m c) _ (Precondition.unmasked m hpre c)))
      congr 1
    · refine (Cert.ReferenceIdeal.Read.val_main_v65_eq (launchContents m' c)).trans
        (Eq.trans ?_ (ReferenceValue.logprob_eq (KernelBlocks.args m c)))
      congr 1
    · refine (Cert.ReferenceIdeal.Read.val_main_v158_eq (launchContents m' c)).trans
        (Eq.trans ?_ (ReferenceValue.logDuration_eq (KernelBlocks.args m c) _ (Precondition.unmasked m hpre c)))
      congr 1

theorem claim : Cert.Claim :=
  ⟨Cert.Kernel.Gen.facts, Cert.KernelIdeal.Gen.facts, Cert.ReferenceIdeal.Gen.facts, Cert.Pre_finite_unmasked.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
